-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv255" .f32 0x3B808081#32 ((1 / 255 : ℝ) : EReal)
  ∧ IdealRules.named_const.Statement Cert.KernelIdeal.κ "inv127" .f32 0x3C010204#32 ((1 / 127 : ℝ) : EReal)

def algebraic_KernelIdeal_ReferenceIdeal_on_within_int8_sum [hKernelIdeal : Cert.KernelIdeal.Facts] [hReferenceIdeal : Cert.ReferenceIdeal.Facts] [hOn_within_int8_sum : Cert.On_within_int8_sum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.KernelIdeal.nD Cert.KernelIdeal.τ).loc Cert.KernelIdeal.main_v1_0) i = v0 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.KernelIdeal.nD Cert.KernelIdeal.τ).loc Cert.KernelIdeal.main_v1_1) i = v1 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.KernelIdeal.nD Cert.KernelIdeal.τ).loc Cert.KernelIdeal.main_v1_2) i = v2 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.KernelIdeal.nD Cert.KernelIdeal.τ).loc Cert.KernelIdeal.main_v1_3) i = v3 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.KernelIdeal.nD Cert.KernelIdeal.τ).loc Cert.KernelIdeal.main_v1_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 i = 1#1 → r.2.mem ((c.tc : Thread Cert.ReferenceIdeal.nD Cert.ReferenceIdeal.τ).loc Cert.ReferenceIdeal.main_v62) i = v0 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 i = 1#1 → r.2.mem ((c.tc : Thread Cert.ReferenceIdeal.nD Cert.ReferenceIdeal.τ).loc Cert.ReferenceIdeal.main_v8) i = v1 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 i = 1#1 → r.2.mem ((c.tc : Thread Cert.ReferenceIdeal.nD Cert.ReferenceIdeal.τ).loc Cert.ReferenceIdeal.main_v50) i = v2 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 i = 1#1 → r.2.mem ((c.tc : Thread Cert.ReferenceIdeal.nD Cert.ReferenceIdeal.τ).loc Cert.ReferenceIdeal.main_v17) i = v3 c i)
          ∧ (∀ i : (⟨2, ![10000, 32]⟩ : Shape).Idx, (Cert.On_within_int8_sum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 i = 1#1 → r.2.mem ((c.tc : Thread Cert.ReferenceIdeal.nD Cert.ReferenceIdeal.τ).loc Cert.ReferenceIdeal.main_v59) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hOn_within_int8_sum : Cert.On_within_int8_sum.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_within_int8_sum (hKernelIdeal := hKernelIdeal) (hReferenceIdeal := hReferenceIdeal) (hOn_within_int8_sum := hOn_within_int8_sum)
-- ==== On_within_int8_sum.lean ====
abbrev S10000x10000 : Shape := ⟨2, ![10000, 10000]⟩
abbrev S_ : Shape := ⟨0, ![]⟩
abbrev S6000x32 : Shape := ⟨2, ![6000, 32]⟩
abbrev S4000x32 : Shape := ⟨2, ![4000, 32]⟩
abbrev S32x128 : Shape := ⟨2, ![32, 128]⟩
abbrev S10000x32 : Shape := ⟨2, ![10000, 32]⟩
abbrev S6000x128 : Shape := ⟨2, ![6000, 128]⟩
abbrev S4000x128 : Shape := ⟨2, ![4000, 128]⟩
abbrev S128x6000 : Shape := ⟨2, ![128, 6000]⟩
abbrev S128x32 : Shape := ⟨2, ![128, 32]⟩
abbrev S128x4000 : Shape := ⟨2, ![128, 4000]⟩
abbrev S32 : Shape := ⟨1, ![32]⟩
abbrev S1x32 : Shape := ⟨2, ![1, 32]⟩

class Facts : Prop where
  concatenates_S6000x32_S4000x32_S10000x32_d0 : Shape.Concatenates [S6000x32, S4000x32] S10000x32 0
  bcast_S_S10000x10000 : S_.BroadcastsInDim S10000x10000 (![] : Fin 0 → Fin S10000x10000.rank)
  transposes_S6000x128_S128x6000_1_0 : S6000x128.Transposes [1, 0] S128x6000
  slices_S10000x32_S6000x32_0_0 : S10000x32.Slices ![0, 0] S6000x32
  transposes_S4000x128_S128x4000_1_0 : S4000x128.Transposes [1, 0] S128x4000
  slices_S10000x32_S4000x32_6000_0 : S10000x32.Slices ![6000, 0] S4000x32
  bcast_S_S10000x32 : S_.BroadcastsInDim S10000x32 (![] : Fin 0 → Fin S10000x32.rank)
  reducesTo_S10000x32_S32_d0 : S10000x32.ReducesTo [0] S32
  h_S_ : 0 < S_.numel
  bcast_S_S32 : S_.BroadcastsInDim S32 (![] : Fin 0 → Fin S32.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  dot_S6000x32_S32x128_S6000x128_1_0_0_1_n_n_wf : DotDims.WF S6000x32 S32x128 S6000x128 [1] [0] [0] [1] [] []
  dot_S4000x32_S32x128_S4000x128_1_0_0_1_n_n_wf : DotDims.WF S4000x32 S32x128 S4000x128 [1] [0] [0] [1] [] []
  dot_S10000x10000_S10000x32_S10000x32_1_0_0_1_n_n_wf : DotDims.WF S10000x10000 S10000x32 S10000x32 [1] [0] [0] [1] [] []
  dot_S128x6000_S6000x32_S128x32_1_0_0_1_n_n_wf : DotDims.WF S128x6000 S6000x32 S128x32 [1] [0] [0] [1] [] []
  dot_S6000x128_S128x32_S6000x32_1_0_0_1_n_n_wf : DotDims.WF S6000x128 S128x32 S6000x32 [1] [0] [0] [1] [] []
  dot_S128x4000_S4000x32_S128x32_1_0_0_1_n_n_wf : DotDims.WF S128x4000 S4000x32 S128x32 [1] [0] [0] [1] [] []
  dot_S4000x128_S128x32_S4000x32_1_0_0_1_n_n_wf : DotDims.WF S4000x128 S128x32 S4000x32 [1] [0] [0] [1] [] []

variable [Facts]

def dot_S6000x32_S32x128_S6000x128_1_0_0_1_n_n : DotDims S6000x32 S32x128 S6000x128 where
  lhsContracting := [1]
  rhsContracting := [0]
  lhsNonContracting := [0]
  rhsNonContracting := [1]
  lhsBatch := []
  rhsBatch := []
  wf := dot_S6000x32_S32x128_S6000x128_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S128x6000_S6000x32_S128x32_1_0_0_1_n_n : DotDims S128x6000 S6000x32 S128x32 where
  lhsContracting := [1]
  rhsContracting := [0]
  lhsNonContracting := [0]
  rhsNonContracting := [1]
  lhsBatch := []
  rhsBatch := []
  wf := dot_S128x6000_S6000x32_S128x32_1_0_0_1_n_n_wf
def dot_S6000x128_S128x32_S6000x32_1_0_0_1_n_n : DotDims S6000x128 S128x32 S6000x32 where
  lhsContracting := [1]
  rhsContracting := [0]
  lhsNonContracting := [0]
  rhsNonContracting := [1]
  lhsBatch := []
  rhsBatch := []
  wf := dot_S6000x128_S128x32_S6000x32_1_0_0_1_n_n_wf
def dot_S128x4000_S4000x32_S128x32_1_0_0_1_n_n : DotDims S128x4000 S4000x32 S128x32 where
  lhsContracting := [1]
  rhsContracting := [0]
  lhsNonContracting := [0]
  rhsNonContracting := [1]
  lhsBatch := []
  rhsBatch := []
  wf := dot_S128x4000_S4000x32_S128x32_1_0_0_1_n_n_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def fn_round {F : FTy → Type} [FloatOps F] (arg0 : FVec F S10000x10000 .f32) : FVec F S10000x10000 .f32 :=
  let v0 : FVec F S10000x10000 .f32 := Host.roundeven arg0
  v0

def fn_clip {F : FTy → Type} [FloatOps F] (arg0 : FVec F S10000x10000 .f32) (arg1 : FVec F S_ .f32) (arg2 : FVec F S_ .f32) : FVec F S10000x10000 .f32 :=
  let v0 : FVec F S_ .f32 := id arg1
  let v1 : FVec F S10000x10000 .f32 := broadcastInDim S10000x10000 ![] bcast_S_S10000x10000 v0
  let v2 : FVec F S10000x10000 .f32 := maximumf v1 arg0
  let v3 : FVec F S_ .f32 := id arg2
  let v4 : FVec F S10000x10000 .f32 := broadcastInDim S10000x10000 ![] bcast_S_S10000x10000 v3
  let v5 : FVec F S10000x10000 .f32 := minimumf v4 v2
  v5

def fn_round_0 {F : FTy → Type} [FloatOps F] (arg0 : FVec F S10000x32 .f32) : FVec F S10000x32 .f32 :=
  let v0 : FVec F S10000x32 .f32 := Host.roundeven arg0
  v0

def fn_part6 {F : FTy → Type} [FloatOps F] (main_v21 : FVec F S10000x10000 .f32) (main_v71 : FVec F S10000x32 .f32) (main_v113 : FVec F S10000x32 .f32) : IVec S10000x32 1 × IVec S10000x32 1 × IVec S10000x32 1 × IVec S10000x32 1 × IVec S10000x32 1 :=
  let main_v114 : FVec F S10000x10000 .f32 := Host.absf main_v21
  let main_v115 : FVec F S10000x32 .f32 := Host.absf main_v71
  let main_v116 : FVec F S10000x32 .f32 := (fun l r => Host.dotGeneral dot_S10000x10000_S10000x32_S10000x32_1_0_0_1_n_n none l r) main_v114 main_v115
  let main_cst_29 : FVec F S_ .f32 := constant S_ .f32 0x4C800000#32
  let main_v117 : FVec F S10000x32 .f32 := broadcastInDim S10000x32 ![] bcast_S_S10000x32 main_cst_29
  let main_v118 : IVec S10000x32 1 := cmpf .ole main_v116 main_v117
  let main_v119 : FVec F S10000x10000 .f32 := Host.absf main_v21
  let main_v120 : FVec F S10000x32 .f32 := Host.absf main_v113
  let main_v121 : FVec F S10000x32 .f32 := (fun l r => Host.dotGeneral dot_S10000x10000_S10000x32_S10000x32_1_0_0_1_n_n none l r) main_v119 main_v120
  let main_cst_30 : FVec F S_ .f32 := constant S_ .f32 0x4C800000#32
  let main_v122 : FVec F S10000x32 .f32 := broadcastInDim S10000x32 ![] bcast_S_S10000x32 main_cst_30
  let main_v123 : IVec S10000x32 1 := cmpf .ole main_v121 main_v122
  let main_v124 : IVec S10000x32 1 := andi main_v118 main_v123
  let main_c : IVec S_ 1 := constantI S_ 1 1#1
  let main_v125 : IVec S10000x32 1 := broadcastInDim S10000x32 ![] bcast_S_S10000x32 main_c
  (main_v124, main_v125, main_v124, main_v125, main_v125)

def fn_part5 {F : FTy → Type} [FloatOps F] (main_v21 : FVec F S10000x10000 .f32) (main_v71 : FVec F S10000x32 .f32) (main_v94 : FVec F S10000x32 .f32) (main_v95 : FVec F S10000x10000 .f32) : IVec S10000x32 1 × IVec S10000x32 1 × IVec S10000x32 1 × IVec S10000x32 1 × IVec S10000x32 1 :=
  let main_cst_23 : FVec F S_ .f32 := constant S_ .f32 0x43000000#32
  let main_v96 : FVec F S10000x10000 .f32 := broadcastInDim S10000x10000 ![] bcast_S_S10000x10000 main_cst_23
  let main_v97 : FVec F S10000x10000 .f32 := subf main_v95 main_v96
  let main_cst_24 : FVec F S_ .f32 := constant S_ .f32 0x437F0000#32
  let main_v98 : FVec F S10000x32 .f32 := broadcastInDim S10000x32 ![] bcast_S_S10000x32 main_cst_24
  let main_v99 : FVec F S10000x32 .f32 := Host.divf main_v94 main_v98
  let main_v100 : FVec F S10000x32 .f32 := Host.absf main_v99
  let main_cst_25 : FVec F S_ .f32 := constant S_ .f32 0xFF800000#32
  let main_v101 : FVec F S32 .f32 := (fun x v => Host.reduce FloatOps.maximumf x v reducesTo_S10000x32_S32_d0 h_S_) main_v100 main_cst_25
  let main_cst_26 : FVec F S_ .f32 := constant S_ .f32 0x0DA24260#32
  let main_v102 : FVec F S32 .f32 := broadcastInDim S32 ![] bcast_S_S32 main_cst_26
  let main_v103 : FVec F S32 .f32 := maximumf main_v101 main_v102
  let main_cst_27 : FVec F S_ .f32 := constant S_ .f32 0x42FE0000#32
  let main_v104 : FVec F S32 .f32 := broadcastInDim S32 ![] bcast_S_S32 main_cst_27
  let main_v105 : FVec F S32 .f32 := Host.divf main_v103 main_v104
  let main_v106 : FVec F S1x32 .f32 := broadcastInDim S1x32 ![1] bcast_S32_S1x32_1 main_v105
  let main_v107 : FVec F S10000x32 .f32 := broadcastInDim S10000x32 ![0, 1] bcast_S1x32_S10000x32_0_1 main_v106
  let main_v108 : FVec F S10000x32 .f32 := Host.divf main_v99 main_v107
  let main_v109 : FVec F S10000x32 .f32 := fn_round_0 (F := F) main_v108
  let main_v110 : FVec F S10000x32 .f32 := subf main_v108 main_v109
  let main_cst_28 : FVec F S_ .f32 := constant S_ .f32 0x43000000#32
  let main_v111 : FVec F S10000x32 .f32 := broadcastInDim S10000x32 ![] bcast_S_S10000x32 main_cst_28
  let main_v112 : FVec F S10000x32 .f32 := mulf main_v110 main_v111
  let main_v113 : FVec F S10000x32 .f32 := fn_round_0 (F := F) main_v112
  fn_part6 (F := F) main_v21 main_v71 main_v113

def fn_part4 {F : FTy → Type} [FloatOps F] (main_arg0 : FVec F S10000x10000 .f32) (main_arg2 : FVec F S6000x32 .f32) (main_arg3 : FVec F S4000x32 .f32) (main_arg4 : FVec F S32x128 .f32) (main_arg5 : FVec F S32x128 .f32) (main_v21 : FVec F S10000x10000 .f32) (main_v71 : FVec F S10000x32 .f32) : IVec S10000x32 1 × IVec S10000x32 1 × IVec S10000x32 1 × IVec S10000x32 1 × IVec S10000x32 1 :=
  let main_v76 : FVec F S10000x32 .f32 := (fun a b => concatenate S10000x32 0 [⟨S6000x32, a⟩, ⟨S4000x32, b⟩] concatenates_S6000x32_S4000x32_S10000x32_d0) main_arg2 main_arg3
  let main_v77 : FVec F S6000x128 .f32 := (fun l r => Host.dotGeneral dot_S6000x32_S32x128_S6000x128_1_0_0_1_n_n none l r) main_arg2 main_arg4
  let main_v78 : FVec F S4000x128 .f32 := (fun l r => Host.dotGeneral dot_S4000x32_S32x128_S4000x128_1_0_0_1_n_n none l r) main_arg3 main_arg5
  let main_cst_19 : FVec F S_ .f32 := constant S_ .f32 0x437F0000#32
  let main_v79 : FVec F S10000x10000 .f32 := broadcastInDim S10000x10000 ![] bcast_S_S10000x10000 main_cst_19
  let main_v80 : FVec F S10000x10000 .f32 := mulf main_arg0 main_v79
  let main_v81 : FVec F S10000x10000 .f32 := fn_round (F := F) main_v80
  let main_cst_20 : FVec F S_ .f32 := constant S_ .f32 0x3B808081#32
  let main_v82 : FVec F S10000x10000 .f32 := broadcastInDim S10000x10000 ![] bcast_S_S10000x10000 main_cst_20
  let main_v83 : FVec F S10000x10000 .f32 := mulf main_v81 main_v82
  let main_v84 : FVec F S10000x32 .f32 := (fun l r => Host.dotGeneral dot_S10000x10000_S10000x32_S10000x32_1_0_0_1_n_n none l r) main_v83 main_v76
  let main_v85 : FVec F S128x6000 .f32 := (transpose S128x6000 [1, 0] · transposes_S6000x128_S128x6000_1_0) main_v77
  let main_v86 : FVec F S6000x32 .f32 := (extractStridedSlice S6000x32 ![0, 0] · slices_S10000x32_S6000x32_0_0) main_v76
  let main_v87 : FVec F S128x32 .f32 := (fun l r => Host.dotGeneral dot_S128x6000_S6000x32_S128x32_1_0_0_1_n_n none l r) main_v85 main_v86
  let main_v88 : FVec F S6000x32 .f32 := (fun l r => Host.dotGeneral dot_S6000x128_S128x32_S6000x32_1_0_0_1_n_n none l r) main_v77 main_v87
  let main_v89 : FVec F S128x4000 .f32 := (transpose S128x4000 [1, 0] · transposes_S4000x128_S128x4000_1_0) main_v78
  let main_v90 : FVec F S4000x32 .f32 := (extractStridedSlice S4000x32 ![6000, 0] · slices_S10000x32_S4000x32_6000_0) main_v76
  let main_v91 : FVec F S128x32 .f32 := (fun l r => Host.dotGeneral dot_S128x4000_S4000x32_S128x32_1_0_0_1_n_n none l r) main_v89 main_v90
  let main_v92 : FVec F S4000x32 .f32 := (fun l r => Host.dotGeneral dot_S4000x128_S128x32_S4000x32_1_0_0_1_n_n none l r) main_v78 main_v91
  let main_v93 : FVec F S10000x32 .f32 := (fun a b => concatenate S10000x32 0 [⟨S6000x32, a⟩, ⟨S4000x32, b⟩] concatenates_S6000x32_S4000x32_S10000x32_d0) main_v88 main_v92
  let main_v94 : FVec F S10000x32 .f32 := addf main_v84 main_v93
  let main_cst_21 : FVec F S_ .f32 := constant S_ .f32 0x00000000#32
  let main_cst_22 : FVec F S_ .f32 := constant S_ .f32 0x437F0000#32
  let main_v95 : FVec F S10000x10000 .f32 := fn_clip (F := F) main_v81 main_cst_21 main_cst_22
  fn_part5 (F := F) main_v21 main_v71 main_v94 main_v95

def fn_part3 {F : FTy → Type} [FloatOps F] (main_arg0 : FVec F S10000x10000 .f32) (main_arg2 : FVec F S6000x32 .f32) (main_arg3 : FVec F S4000x32 .f32) (main_arg4 : FVec F S32x128 .f32) (main_arg5 : FVec F S32x128 .f32) (main_v21 : FVec F S10000x10000 .f32) (main_v56 : FVec F S10000x32 .f32) (main_v57 : FVec F S10000x10000 .f32) : IVec S10000x32 1 × IVec S10000x32 1 × IVec S10000x32 1 × IVec S10000x32 1 × IVec S10000x32 1 :=
  let main_cst_13 : FVec F S_ .f32 := constant S_ .f32 0x43000000#32
  let main_v58 : FVec F S10000x10000 .f32 := broadcastInDim S10000x10000 ![] bcast_S_S10000x10000 main_cst_13
  let main_v59 : FVec F S10000x10000 .f32 := subf main_v57 main_v58
  let main_cst_14 : FVec F S_ .f32 := constant S_ .f32 0x437F0000#32
  let main_v60 : FVec F S10000x32 .f32 := broadcastInDim S10000x32 ![] bcast_S_S10000x32 main_cst_14
  let main_v61 : FVec F S10000x32 .f32 := Host.divf main_v56 main_v60
  let main_v62 : FVec F S10000x32 .f32 := Host.absf main_v61
  let main_cst_15 : FVec F S_ .f32 := constant S_ .f32 0xFF800000#32
  let main_v63 : FVec F S32 .f32 := (fun x v => Host.reduce FloatOps.maximumf x v reducesTo_S10000x32_S32_d0 h_S_) main_v62 main_cst_15
  let main_cst_16 : FVec F S_ .f32 := constant S_ .f32 0x0DA24260#32
  let main_v64 : FVec F S32 .f32 := broadcastInDim S32 ![] bcast_S_S32 main_cst_16
  let main_v65 : FVec F S32 .f32 := maximumf main_v63 main_v64
  let main_cst_17 : FVec F S_ .f32 := constant S_ .f32 0x42FE0000#32
  let main_v66 : FVec F S32 .f32 := broadcastInDim S32 ![] bcast_S_S32 main_cst_17
  let main_v67 : FVec F S32 .f32 := Host.divf main_v65 main_v66
  let main_v68 : FVec F S1x32 .f32 := broadcastInDim S1x32 ![1] bcast_S32_S1x32_1 main_v67
  let main_v69 : FVec F S10000x32 .f32 := broadcastInDim S10000x32 ![0, 1] bcast_S1x32_S10000x32_0_1 main_v68
  let main_v70 : FVec F S10000x32 .f32 := Host.divf main_v61 main_v69
  let main_v71 : FVec F S10000x32 .f32 := fn_round_0 (F := F) main_v70
  let main_v72 : FVec F S10000x32 .f32 := subf main_v70 main_v71
  let main_cst_18 : FVec F S_ .f32 := constant S_ .f32 0x43000000#32
  let main_v73 : FVec F S10000x32 .f32 := broadcastInDim S10000x32 ![] bcast_S_S10000x32 main_cst_18
  let main_v74 : FVec F S10000x32 .f32 := mulf main_v72 main_v73
  let main_v75 : FVec F S10000x32 .f32 := fn_round_0 (F := F) main_v74
  fn_part4 (F := F) main_arg0 main_arg2 main_arg3 main_arg4 main_arg5 main_v21 main_v71

def fn_part2 {F : FTy → Type} [FloatOps F] (main_arg0 : FVec F S10000x10000 .f32) (main_arg2 : FVec F S6000x32 .f32) (main_arg3 : FVec F S4000x32 .f32) (main_arg4 : FVec F S32x128 .f32) (main_arg5 : FVec F S32x128 .f32) (main_v21 : FVec F S10000x10000 .f32) : IVec S10000x32 1 × IVec S10000x32 1 × IVec S10000x32 1 × IVec S10000x32 1 × IVec S10000x32 1 :=
  let main_v38 : FVec F S10000x32 .f32 := (fun a b => concatenate S10000x32 0 [⟨S6000x32, a⟩, ⟨S4000x32, b⟩] concatenates_S6000x32_S4000x32_S10000x32_d0) main_arg2 main_arg3
  let main_v39 : FVec F S6000x128 .f32 := (fun l r => Host.dotGeneral dot_S6000x32_S32x128_S6000x128_1_0_0_1_n_n none l r) main_arg2 main_arg4
  let main_v40 : FVec F S4000x128 .f32 := (fun l r => Host.dotGeneral dot_S4000x32_S32x128_S4000x128_1_0_0_1_n_n none l r) main_arg3 main_arg5
  let main_cst_9 : FVec F S_ .f32 := constant S_ .f32 0x437F0000#32
  let main_v41 : FVec F S10000x10000 .f32 := broadcastInDim S10000x10000 ![] bcast_S_S10000x10000 main_cst_9
  let main_v42 : FVec F S10000x10000 .f32 := mulf main_arg0 main_v41
  let main_v43 : FVec F S10000x10000 .f32 := fn_round (F := F) main_v42
  let main_cst_10 : FVec F S_ .f32 := constant S_ .f32 0x3B808081#32
  let main_v44 : FVec F S10000x10000 .f32 := broadcastInDim S10000x10000 ![] bcast_S_S10000x10000 main_cst_10
  let main_v45 : FVec F S10000x10000 .f32 := mulf main_v43 main_v44
  let main_v46 : FVec F S10000x32 .f32 := (fun l r => Host.dotGeneral dot_S10000x10000_S10000x32_S10000x32_1_0_0_1_n_n none l r) main_v45 main_v38
  let main_v47 : FVec F S128x6000 .f32 := (transpose S128x6000 [1, 0] · transposes_S6000x128_S128x6000_1_0) main_v39
  let main_v48 : FVec F S6000x32 .f32 := (extractStridedSlice S6000x32 ![0, 0] · slices_S10000x32_S6000x32_0_0) main_v38
  let main_v49 : FVec F S128x32 .f32 := (fun l r => Host.dotGeneral dot_S128x6000_S6000x32_S128x32_1_0_0_1_n_n none l r) main_v47 main_v48
  let main_v50 : FVec F S6000x32 .f32 := (fun l r => Host.dotGeneral dot_S6000x128_S128x32_S6000x32_1_0_0_1_n_n none l r) main_v39 main_v49
  let main_v51 : FVec F S128x4000 .f32 := (transpose S128x4000 [1, 0] · transposes_S4000x128_S128x4000_1_0) main_v40
  let main_v52 : FVec F S4000x32 .f32 := (extractStridedSlice S4000x32 ![6000, 0] · slices_S10000x32_S4000x32_6000_0) main_v38
  let main_v53 : FVec F S128x32 .f32 := (fun l r => Host.dotGeneral dot_S128x4000_S4000x32_S128x32_1_0_0_1_n_n none l r) main_v51 main_v52
  let main_v54 : FVec F S4000x32 .f32 := (fun l r => Host.dotGeneral dot_S4000x128_S128x32_S4000x32_1_0_0_1_n_n none l r) main_v40 main_v53
  let main_v55 : FVec F S10000x32 .f32 := (fun a b => concatenate S10000x32 0 [⟨S6000x32, a⟩, ⟨S4000x32, b⟩] concatenates_S6000x32_S4000x32_S10000x32_d0) main_v50 main_v54
  let main_v56 : FVec F S10000x32 .f32 := addf main_v46 main_v55
  let main_cst_11 : FVec F S_ .f32 := constant S_ .f32 0x00000000#32
  let main_cst_12 : FVec F S_ .f32 := constant S_ .f32 0x437F0000#32
  let main_v57 : FVec F S10000x10000 .f32 := fn_clip (F := F) main_v43 main_cst_11 main_cst_12
  fn_part3 (F := F) main_arg0 main_arg2 main_arg3 main_arg4 main_arg5 main_v21 main_v56 main_v57

def fn_part1 {F : FTy → Type} [FloatOps F] (main_arg0 : FVec F S10000x10000 .f32) (main_arg2 : FVec F S6000x32 .f32) (main_arg3 : FVec F S4000x32 .f32) (main_arg4 : FVec F S32x128 .f32) (main_arg5 : FVec F S32x128 .f32) (main_v18 : FVec F S10000x32 .f32) (main_v19 : FVec F S10000x10000 .f32) : IVec S10000x32 1 × IVec S10000x32 1 × IVec S10000x32 1 × IVec S10000x32 1 × IVec S10000x32 1 :=
  let main_cst_3 : FVec F S_ .f32 := constant S_ .f32 0x43000000#32
  let main_v20 : FVec F S10000x10000 .f32 := broadcastInDim S10000x10000 ![] bcast_S_S10000x10000 main_cst_3
  let main_v21 : FVec F S10000x10000 .f32 := subf main_v19 main_v20
  let main_cst_4 : FVec F S_ .f32 := constant S_ .f32 0x437F0000#32
  let main_v22 : FVec F S10000x32 .f32 := broadcastInDim S10000x32 ![] bcast_S_S10000x32 main_cst_4
  let main_v23 : FVec F S10000x32 .f32 := Host.divf main_v18 main_v22
  let main_v24 : FVec F S10000x32 .f32 := Host.absf main_v23
  let main_cst_5 : FVec F S_ .f32 := constant S_ .f32 0xFF800000#32
  let main_v25 : FVec F S32 .f32 := (fun x v => Host.reduce FloatOps.maximumf x v reducesTo_S10000x32_S32_d0 h_S_) main_v24 main_cst_5
  let main_cst_6 : FVec F S_ .f32 := constant S_ .f32 0x0DA24260#32
  let main_v26 : FVec F S32 .f32 := broadcastInDim S32 ![] bcast_S_S32 main_cst_6
  let main_v27 : FVec F S32 .f32 := maximumf main_v25 main_v26
  let main_cst_7 : FVec F S_ .f32 := constant S_ .f32 0x42FE0000#32
  let main_v28 : FVec F S32 .f32 := broadcastInDim S32 ![] bcast_S_S32 main_cst_7
  let main_v29 : FVec F S32 .f32 := Host.divf main_v27 main_v28
  let main_v30 : FVec F S1x32 .f32 := broadcastInDim S1x32 ![1] bcast_S32_S1x32_1 main_v29
  let main_v31 : FVec F S10000x32 .f32 := broadcastInDim S10000x32 ![0, 1] bcast_S1x32_S10000x32_0_1 main_v30
  let main_v32 : FVec F S10000x32 .f32 := Host.divf main_v23 main_v31
  let main_v33 : FVec F S10000x32 .f32 := fn_round_0 (F := F) main_v32
  let main_v34 : FVec F S10000x32 .f32 := subf main_v32 main_v33
  let main_cst_8 : FVec F S_ .f32 := constant S_ .f32 0x43000000#32
  let main_v35 : FVec F S10000x32 .f32 := broadcastInDim S10000x32 ![] bcast_S_S10000x32 main_cst_8
  let main_v36 : FVec F S10000x32 .f32 := mulf main_v34 main_v35
  let main_v37 : FVec F S10000x32 .f32 := fn_round_0 (F := F) main_v36
  fn_part2 (F := F) main_arg0 main_arg2 main_arg3 main_arg4 main_arg5 main_v21

def fn {F : FTy → Type} [FloatOps F] (main_arg0 : FVec F S10000x10000 .f32) (main_arg1 : IVec S_ 32) (main_arg2 : FVec F S6000x32 .f32) (main_arg3 : FVec F S4000x32 .f32) (main_arg4 : FVec F S32x128 .f32) (main_arg5 : FVec F S32x128 .f32) : IVec S10000x32 1 × IVec S10000x32 1 × IVec S10000x32 1 × IVec S10000x32 1 × IVec S10000x32 1 :=
  let main_v0 : FVec F S10000x32 .f32 := (fun a b => concatenate S10000x32 0 [⟨S6000x32, a⟩, ⟨S4000x32, b⟩] concatenates_S6000x32_S4000x32_S10000x32_d0) main_arg2 main_arg3
  let main_v1 : FVec F S6000x128 .f32 := (fun l r => Host.dotGeneral dot_S6000x32_S32x128_S6000x128_1_0_0_1_n_n none l r) main_arg2 main_arg4
  let main_v2 : FVec F S4000x128 .f32 := (fun l r => Host.dotGeneral dot_S4000x32_S32x128_S4000x128_1_0_0_1_n_n none l r) main_arg3 main_arg5
  let main_cst : FVec F S_ .f32 := constant S_ .f32 0x437F0000#32
  let main_v3 : FVec F S10000x10000 .f32 := broadcastInDim S10000x10000 ![] bcast_S_S10000x10000 main_cst
  let main_v4 : FVec F S10000x10000 .f32 := mulf main_arg0 main_v3
  let main_v5 : FVec F S10000x10000 .f32 := fn_round (F := F) main_v4
  let main_cst_0 : FVec F S_ .f32 := constant S_ .f32 0x3B808081#32
  let main_v6 : FVec F S10000x10000 .f32 := broadcastInDim S10000x10000 ![] bcast_S_S10000x10000 main_cst_0
  let main_v7 : FVec F S10000x10000 .f32 := mulf main_v5 main_v6
  let main_v8 : FVec F S10000x32 .f32 := (fun l r => Host.dotGeneral dot_S10000x10000_S10000x32_S10000x32_1_0_0_1_n_n none l r) main_v7 main_v0
  let main_v9 : FVec F S128x6000 .f32 := (transpose S128x6000 [1, 0] · transposes_S6000x128_S128x6000_1_0) main_v1
  let main_v10 : FVec F S6000x32 .f32 := (extractStridedSlice S6000x32 ![0, 0] · slices_S10000x32_S6000x32_0_0) main_v0
  let main_v11 : FVec F S128x32 .f32 := (fun l r => Host.dotGeneral dot_S128x6000_S6000x32_S128x32_1_0_0_1_n_n none l r) main_v9 main_v10
  let main_v12 : FVec F S6000x32 .f32 := (fun l r => Host.dotGeneral dot_S6000x128_S128x32_S6000x32_1_0_0_1_n_n none l r) main_v1 main_v11
  let main_v13 : FVec F S128x4000 .f32 := (transpose S128x4000 [1, 0] · transposes_S4000x128_S128x4000_1_0) main_v2
  let main_v14 : FVec F S4000x32 .f32 := (extractStridedSlice S4000x32 ![6000, 0] · slices_S10000x32_S4000x32_6000_0) main_v0
  let main_v15 : FVec F S128x32 .f32 := (fun l r => Host.dotGeneral dot_S128x4000_S4000x32_S128x32_1_0_0_1_n_n none l r) main_v13 main_v14
  let main_v16 : FVec F S4000x32 .f32 := (fun l r => Host.dotGeneral dot_S4000x128_S128x32_S4000x32_1_0_0_1_n_n none l r) main_v2 main_v15
  let main_v17 : FVec F S10000x32 .f32 := (fun a b => concatenate S10000x32 0 [⟨S6000x32, a⟩, ⟨S4000x32, b⟩] concatenates_S6000x32_S4000x32_S10000x32_d0) main_v12 main_v16
  let main_v18 : FVec F S10000x32 .f32 := addf main_v8 main_v17
  let main_cst_1 : FVec F S_ .f32 := constant S_ .f32 0x00000000#32
  let main_cst_2 : FVec F S_ .f32 := constant S_ .f32 0x437F0000#32
  let main_v19 : FVec F S10000x10000 .f32 := fn_clip (F := F) main_v5 main_cst_1 main_cst_2
  fn_part1 (F := F) main_arg0 main_arg2 main_arg3 main_arg4 main_arg5 main_v18 main_v19
-- ==== Kernel.lean ====
abbrev S10000x10000 : Shape := ⟨2, ![10000, 10000]⟩
abbrev S_ : Shape := ⟨0, ![]⟩
abbrev S6000x32 : Shape := ⟨2, ![6000, 32]⟩
abbrev S4000x32 : Shape := ⟨2, ![4000, 32]⟩
abbrev S32x128 : Shape := ⟨2, ![32, 128]⟩
abbrev S10000x32 : Shape := ⟨2, ![10000, 32]⟩
abbrev S8x32 : Shape := ⟨2, ![8, 32]⟩
abbrev S400x10000 : Shape := ⟨2, ![400, 10000]⟩
abbrev S400x32 : Shape := ⟨2, ![400, 32]⟩
abbrev S6000x128 : Shape := ⟨2, ![6000, 128]⟩
abbrev S4000x128 : Shape := ⟨2, ![4000, 128]⟩
abbrev S128x32 : Shape := ⟨2, ![128, 32]⟩
abbrev S32 : Shape := ⟨1, ![32]⟩
abbrev S1x32 : Shape := ⟨2, ![1, 32]⟩
abbrev S5x32 : Shape := ⟨2, ![5, 32]⟩
abbrev S2000x10000 : Shape := ⟨2, ![2000, 10000]⟩
abbrev S2000x32 : Shape := ⟨2, ![2000, 32]⟩

abbrev nBuf : Space → Nat
  | .hbm => 21
  | .vmem => 34
  | .smem => 0
  | _ => 0

abbrev bufTy : (tb : Table) → Fin (tcTables nBuf tb) → BufTy
  | .hbm, ⟨0, _⟩ => ⟨S10000x10000, .f32⟩
  | .hbm, ⟨1, _⟩ => ⟨S_, .i32⟩
  | .hbm, ⟨2, _⟩ => ⟨S6000x32, .f32⟩
  | .hbm, ⟨3, _⟩ => ⟨S4000x32, .f32⟩
  | .hbm, ⟨4, _⟩ => ⟨S32x128, .f32⟩
  | .hbm, ⟨5, _⟩ => ⟨S32x128, .f32⟩
  | .hbm, ⟨6, _⟩ => ⟨S10000x32, .f32⟩
  | .hbm, ⟨7, _⟩ => ⟨S_, .f32⟩
  | .hbm, ⟨8, _⟩ => ⟨S10000x32, .f32⟩
  | .hbm, ⟨9, _⟩ => ⟨S10000x32, .f32⟩
  | .hbm, ⟨10, _⟩ => ⟨S10000x32, .bf16⟩
  | .hbm, ⟨11, _⟩ => ⟨S10000x32, .f32⟩
  | .hbm, ⟨12, _⟩ => ⟨S10000x10000, .i8⟩
  | .hbm, ⟨13, _⟩ => ⟨S10000x32, .f32⟩
  | .hbm, ⟨14, _⟩ => ⟨S10000x32, .f32⟩
  | .hbm, ⟨15, _⟩ => ⟨S10000x32, .i8⟩
  | .hbm, ⟨16, _⟩ => ⟨S10000x32, .i8⟩
  | .hbm, ⟨17, _⟩ => ⟨S8x32, .f32⟩
  | .hbm, ⟨18, _⟩ => ⟨S10000x32, .f32⟩
  | .hbm, ⟨19, _⟩ => ⟨S10000x32, .f32⟩
  | .hbm, ⟨20, _⟩ => ⟨S10000x32, .f32⟩
  | .local _ .vmem, ⟨0, _⟩ => ⟨S400x10000, .f32⟩
  | .local _ .vmem, ⟨1, _⟩ => ⟨S400x10000, .f32⟩
  | .local _ .vmem, ⟨2, _⟩ => ⟨S10000x32, .bf16⟩
  | .local _ .vmem, ⟨3, _⟩ => ⟨S400x32, .f32⟩
  | .local _ .vmem, ⟨4, _⟩ => ⟨S400x32, .f32⟩
  | .local _ .vmem, ⟨5, _⟩ => ⟨S400x10000, .i8⟩
  | .local _ .vmem, ⟨6, _⟩ => ⟨S400x10000, .i8⟩
  | .local _ .vmem, ⟨7, _⟩ => ⟨S10000x32, .f32⟩
  | .local _ .vmem, ⟨8, _⟩ => ⟨S10000x32, .f32⟩
  | .local _ .vmem, ⟨9, _⟩ => ⟨S32x128, .f32⟩
  | .local _ .vmem, ⟨10, _⟩ => ⟨S32x128, .f32⟩
  | .local _ .vmem, ⟨11, _⟩ => ⟨S10000x32, .f32⟩
  | .local _ .vmem, ⟨12, _⟩ => ⟨S10000x32, .f32⟩
  | .local _ .vmem, ⟨13, _⟩ => ⟨S10000x32, .i8⟩
  | .local _ .vmem, ⟨14, _⟩ => ⟨S10000x32, .i8⟩
  | .local _ .vmem, ⟨15, _⟩ => ⟨S8x32, .f32⟩
  | .local _ .vmem, ⟨16, _⟩ => ⟨S10000x32, .f32⟩
  | .local _ .vmem, ⟨17, _⟩ => ⟨S6000x128, .f32⟩
  | .local _ .vmem, ⟨18, _⟩ => ⟨S4000x128, .f32⟩
  | .local _ .vmem, ⟨19, _⟩ => ⟨S2000x10000, .i8⟩
  | .local _ .vmem, ⟨20, _⟩ => ⟨S2000x10000, .i8⟩
  | .local _ .vmem, ⟨21, _⟩ => ⟨S10000x32, .i8⟩
  | .local _ .vmem, ⟨22, _⟩ => ⟨S10000x32, .i8⟩
  | .local _ .vmem, ⟨23, _⟩ => ⟨S8x32, .f32⟩
  | .local _ .vmem, ⟨24, _⟩ => ⟨S2000x32, .f32⟩
  | .local _ .vmem, ⟨25, _⟩ => ⟨S2000x32, .f32⟩
  | .local _ .vmem, ⟨26, _⟩ => ⟨S2000x32, .f32⟩
  | .local _ .vmem, ⟨27, _⟩ => ⟨S2000x32, .f32⟩
  | .local _ .vmem, ⟨28, _⟩ => ⟨S2000x32, .f32⟩
  | .local _ .vmem, ⟨29, _⟩ => ⟨S2000x32, .f32⟩
  | .local _ .vmem, ⟨30, _⟩ => ⟨S2000x32, .f32⟩
  | .local _ .vmem, ⟨31, _⟩ => ⟨S2000x32, .f32⟩
  | .local _ .vmem, ⟨32, _⟩ => ⟨S2000x32, .f32⟩
  | .local _ .vmem, ⟨33, _⟩ => ⟨S2000x32, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v1_1 : Ref sig .tc := ⟨.hbm, 11, rfl⟩
abbrev main_call0_v3_1 : Ref sig .tc := ⟨.hbm, 12, rfl⟩
abbrev main_v1_3 : Ref sig .tc := ⟨.hbm, 13, rfl⟩
abbrev main_call0_v4_1 : Ref sig .tc := ⟨.hbm, 14, rfl⟩
abbrev main_call0_v4_2 : Ref sig .tc := ⟨.hbm, 15, rfl⟩
abbrev main_call0_v4_3 : Ref sig .tc := ⟨.hbm, 16, rfl⟩
abbrev main_call0_v4_4 : Ref sig .tc := ⟨.hbm, 17, rfl⟩
abbrev main_v1_4 : Ref sig .tc := ⟨.hbm, 18, rfl⟩
abbrev main_v1_2 : Ref sig .tc := ⟨.hbm, 19, rfl⟩
abbrev main_v1_0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc2_sem8_0 : DmaSem sig := 30
abbrev cc2_sem8_1 : DmaSem sig := 31

abbrev nD : Nat := 1
abbrev τ : Topo := Topo.v5e

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x10000 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S10000x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S10000x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S10000x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S10000x32 .i8 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S10000x32 .i8 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S10000x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x10000 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x32 .i8 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S10000x32 .i8 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x32 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== KernelIdeal.lean ====
variable {F : FTy → Type} [FloatOps F] [Named F]
def κ : String → Option EReal := fun
  | "inv127" => some ((1 / 127 : ℝ) : EReal)
  | "inv255" => some ((1 / 255 : ℝ) : EReal)
  | _ => none
-- ==== ReferenceIdeal.lean ====
abbrev S10000x10000 : Shape := ⟨2, ![10000, 10000]⟩
abbrev S_ : Shape := ⟨0, ![]⟩
abbrev S6000x32 : Shape := ⟨2, ![6000, 32]⟩
abbrev S4000x32 : Shape := ⟨2, ![4000, 32]⟩
abbrev S32x128 : Shape := ⟨2, ![32, 128]⟩
abbrev S10000x32 : Shape := ⟨2, ![10000, 32]⟩
abbrev S6000x128 : Shape := ⟨2, ![6000, 128]⟩
abbrev S4000x128 : Shape := ⟨2, ![4000, 128]⟩
abbrev S128x6000 : Shape := ⟨2, ![128, 6000]⟩
abbrev S128x32 : Shape := ⟨2, ![128, 32]⟩
abbrev S128x4000 : Shape := ⟨2, ![128, 4000]⟩
abbrev S32 : Shape := ⟨1, ![32]⟩
abbrev S1x32 : Shape := ⟨2, ![1, 32]⟩

abbrev nBuf : Space → Nat
  | .hbm => 87
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S_, .i32⟩
  | .hbm, ⟨2, _⟩ => ⟨S6000x32, .f32⟩
  | .hbm, ⟨3, _⟩ => ⟨S4000x32, .f32⟩
  | .hbm, ⟨4, _⟩ => ⟨S32x128, .f32⟩
  | .hbm, ⟨5, _⟩ => ⟨S32x128, .f32⟩
  | .hbm, ⟨6, _⟩ => ⟨S10000x32, .f32⟩
  | .hbm, ⟨7, _⟩ => ⟨S6000x128, .f32⟩
  | .hbm, ⟨8, _⟩ => ⟨S4000x128, .f32⟩
  | .hbm, ⟨9, _⟩ => ⟨S_, .f32⟩
  | .hbm, ⟨10, _⟩ => ⟨S10000x10000, .f32⟩
  | .hbm, ⟨11, _⟩ => ⟨S10000x10000, .f32⟩
  | .hbm, ⟨12, _⟩ => ⟨S10000x10000, .f32⟩
  | .hbm, ⟨13, _⟩ => ⟨S_, .f32⟩
  | .hbm, ⟨14, _⟩ => ⟨S10000x10000, .f32⟩
  | .hbm, ⟨15, _⟩ => ⟨S10000x10000, .f32⟩
  | .hbm, ⟨16, _⟩ => ⟨S10000x32, .f32⟩
  | .hbm, ⟨17, _⟩ => ⟨S128x6000, .f32⟩
  | .hbm, ⟨18, _⟩ => ⟨S6000x32, .f32⟩
  | .hbm, ⟨19, _⟩ => ⟨S128x32, .f32⟩
  | .hbm, ⟨20, _⟩ => ⟨S6000x32, .f32⟩
  | .hbm, ⟨21, _⟩ => ⟨S128x4000, .f32⟩
  | .hbm, ⟨22, _⟩ => ⟨S4000x32, .f32⟩
  | .hbm, ⟨23, _⟩ => ⟨S128x32, .f32⟩
  | .hbm, ⟨24, _⟩ => ⟨S4000x32, .f32⟩
  | .hbm, ⟨25, _⟩ => ⟨S10000x32, .f32⟩
  | .hbm, ⟨26, _⟩ => ⟨S10000x32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S10000x10000, .f32⟩
  | .hbm, ⟨31, _⟩ => ⟨S10000x10000, .f32⟩
  | .hbm, ⟨32, _⟩ => ⟨S_, .f32⟩
  | .hbm, ⟨33, _⟩ => ⟨S10000x10000, .f32⟩
  | .hbm, ⟨34, _⟩ => ⟨S10000x10000, .f32⟩
  | .hbm, ⟨35, _⟩ => ⟨S_, .f32⟩
  | .hbm, ⟨36, _⟩ => ⟨S10000x10000, .f32⟩
  | .hbm, ⟨37, _⟩ => ⟨S10000x10000, .f32⟩
  | .hbm, ⟨38, _⟩ => ⟨S_, .f32⟩
  | .hbm, ⟨39, _⟩ => ⟨S10000x32, .f32⟩
  | .hbm, ⟨40, _⟩ => ⟨S10000x32, .f32⟩
  | .hbm, ⟨41, _⟩ => ⟨S10000x32, .f32⟩
  | .hbm, ⟨42, _⟩ => ⟨S_, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S1x32, .f32⟩
  | .hbm, ⟨51, _⟩ => ⟨S10000x32, .f32⟩
  | .hbm, ⟨52, _⟩ => ⟨S10000x32, .f32⟩
  | .hbm, ⟨53, _⟩ => ⟨S10000x32, .f32⟩
  | .hbm, ⟨54, _⟩ => ⟨S10000x32, .f32⟩
  | .hbm, ⟨55, _⟩ => ⟨S_, .f32⟩
  | .hbm, ⟨56, _⟩ => ⟨S10000x32, .f32⟩
  | .hbm, ⟨57, _⟩ => ⟨S10000x32, .f32⟩
  | .hbm, ⟨58, _⟩ => ⟨S10000x32, .f32⟩
  | .hbm, ⟨59, _⟩ => ⟨S_, .f32⟩
  | .hbm, ⟨60, _⟩ => ⟨S10000x32, .f32⟩
  | .hbm, ⟨61, _⟩ => ⟨S10000x32, .f32⟩
  | .hbm, ⟨62, _⟩ => ⟨S10000x32, .f32⟩
  | .hbm, ⟨63, _⟩ => ⟨S1x32, .f32⟩
  | .hbm, ⟨64, _⟩ => ⟨S10000x32, .f32⟩
  | .hbm, ⟨65, _⟩ => ⟨S10000x32, .f32⟩
  | .hbm, ⟨66, _⟩ => ⟨S10000x32, .f32⟩
  | .hbm, ⟨67, _⟩ => ⟨S_, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S1x32, .f32⟩
  | .hbm, ⟨73, _⟩ => ⟨S10000x32, .f32⟩
  | .hbm, ⟨74, _⟩ => ⟨S10000x32, .f32⟩
  | .hbm, ⟨75, _⟩ => ⟨S128x6000, .f32⟩
  | .hbm, ⟨76, _⟩ => ⟨S6000x32, .f32⟩
  | .hbm, ⟨77, _⟩ => ⟨S128x32, .f32⟩
  | .hbm, ⟨78, _⟩ => ⟨S6000x32, .f32⟩
  | .hbm, ⟨79, _⟩ => ⟨S128x4000, .f32⟩
  | .hbm, ⟨80, _⟩ => ⟨S4000x32, .f32⟩
  | .hbm, ⟨81, _⟩ => ⟨S128x32, .f32⟩
  | .hbm, ⟨82, _⟩ => ⟨S4000x32, .f32⟩
  | .hbm, ⟨83, _⟩ => ⟨S10000x32, .f32⟩
  | .hbm, ⟨84, _⟩ => ⟨S10000x32, .f32⟩
  | .hbm, ⟨85, _⟩ => ⟨S10000x32, .f32⟩
  | .hbm, ⟨86, _⟩ => ⟨S10000x32, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v5e

variable {F : FTy → Type} [FloatOps F]
-- ==== Proof.HyperBlocks.lean ====
/-
The middle kernel runs once, on whole arrays. This module reads its six output buffers off the generated run: each is
two pieces (the first 6000 rows, then the last 4000) or one, and each piece is a named payload of the blocks read.
-/
module

public import proofs.«01_k».proof.Proof.Gen.KernelIdeal.Frame
public import Idealize.ShloMosaic.Lib.Pipeline.ValueKit
public import Idealize.ShloMosaic.Lib.Pipeline.Value

@[expose] public section

set_option maxRecDepth 16384

noncomputable section

namespace Cert.Proof.Hyper

open Idealize.ShloMosaic Idealize.ShloMosaic.TcCoe Idealize.ShloMosaic.Tactic Idealize.SL.Sem
open Cert.KernelIdeal Cert.KernelIdeal.Gen

variable {F : FTy → Type} [FloatOps F] [Named F]

/-- The first 6000 rows (the users) of a 10000-row array. -/
abbrev rU : Rect S10000x32 := Rect.unit (s := S10000x32) ![0, 0] S6000x32.size inb_S10000x32_S6000x32_0_0
/-- The last 4000 rows (the items) of a 10000-row array. -/
abbrev rI : Rect S10000x32 := Rect.unit (s := S10000x32) ![6000, 0] S4000x32.size inb_S10000x32_S4000x32_6000_0

/-- The users' hyperedge weights: user rows of the embeddings times the users' hyper matrix. -/
def wU (x1 : Vec F S10000x32 .f32) (x2 : Vec F S32x128 .f32) : FVec F S6000x128 .f32 := k1_pay4 (View.ld x1 rU) x2
/-- The items' hyperedge weights. -/
def wI (x1 : Vec F S10000x32 .f32) (x3 : Vec F S32x128 .f32) : FVec F S4000x128 .f32 := k1_pay5 (View.ld x1 rI) x3
/-- The users' rows of the first hypergraph layer. -/
def hypU (x1 : Vec F S10000x32 .f32) (x2 : Vec F S32x128 .f32) : FVec F S6000x32 .f32 :=
  k1_pay6 (View.ld x1 rU) (wU x1 x2) (wU x1 x2)
/-- The items' rows of the first hypergraph layer. -/
def hypI (x1 : Vec F S10000x32 .f32) (x3 : Vec F S32x128 .f32) : FVec F S4000x32 .f32 :=
  k1_pay9 (k1_pay7 (wI x1 x3)) (k1_pay8 (View.ld x1 rI) (wI x1 x3))
/-- The users' rows of the layer-1 sum. -/
def latU (x0 x1 : Vec F S10000x32 .f32) (x2 : Vec F S32x128 .f32) : FVec F S6000x32 .f32 :=
  k1_pay10 (hypU x1 x2) (View.ld x0 rU)
/-- The items' rows of the layer-1 sum. -/
def latI (x0 x1 : Vec F S10000x32 .f32) (x3 : Vec F S32x128 .f32) : FVec F S4000x32 .f32 :=
  k1_pay11 (k1_pay7 (wI x1 x3)) (k1_pay8 (View.ld x1 rI) (wI x1 x3)) (View.ld x0 rI)

variable (V : (c : Dev nD) → (b : Ref sig .tc) → Buf (Elt F) ((c : Thread nD τ).loc b)) (c : Dev nD) (t : Fin cfg1.N)

theorem hz : (![0, 0] : Fin 2 → ℕ) = fun _ => 0 := by funext a; fin_cases a <;> rfl

theorem rd0 (x : Vec F S10000x32 .f32) : View.read (Elt F) (View.whole cc1_stg0_0) ((hs1_0 t).unread x) = x := (hs1_0 t).read_unread x
theorem rd1 (x : Vec F S10000x32 .f32) : View.read (Elt F) (View.whole cc1_stg1_0) ((hs1_1 t).unread x) = x := (hs1_1 t).read_unread x
theorem rd2 (x : Vec F S32x128 .f32) : View.read (Elt F) (View.whole cc1_stg2_0) ((hs1_2 t).unread x) = x := (hs1_2 t).read_unread x
theorem rd3 (x : Vec F S32x128 .f32) : View.read (Elt F) (View.whole cc1_stg3_0) ((hs1_3 t).unread x) = x := (hs1_3 t).read_unread x

/-- The first result buffer: the first hypergraph layer. -/
theorem out4 : (outsAt1 V c t).1 = View.canon [⟨rI, hypI (iblk1 V c 1 t) (iblk1 V c 3 t)⟩, ⟨rU, hypU (iblk1 V c 1 t) (iblk1 V c 2 t)⟩] := by
  unfold outsAt1
  dsimp only
  unfold out1_A_4
  rw [View.read_writes_eq_canon _ _ _ (cover1_A_4 c _ _ _ _ _ _ _ _ _ _ _ _ _ _ _ _ _ _ _ _ _ _ _ _ _ _ _ _)]
  unfold kernelRun1_A
  dsimp only
  sl_unfold_words
  simp only [View.readCov_unit_zero (S := S6000x128) _ hz, View.readCov_unit_zero (S := S4000x128) _ hz, View.readAt_eq_ld,
    Memref.IsWhole.read_unread, View.ld_unit_zero (S := S32x128) hz, rd0, rd1, rd2, rd3]
  rfl

/-- The second: the layer-1 sum. -/
theorem out5 : (outsAt1 V c t).2.1 = View.canon [⟨rI, latI (iblk1 V c 0 t) (iblk1 V c 1 t) (iblk1 V c 3 t)⟩, ⟨rU, latU (iblk1 V c 0 t) (iblk1 V c 1 t) (iblk1 V c 2 t)⟩] := by
  unfold outsAt1
  dsimp only
  unfold out1_A_5
  rw [View.read_writes_eq_canon _ _ _ (cover1_A_5 c _ _ _ _ _ _ _ _ _ _ _ _ _ _ _ _ _ _ _ _ _ _ _ _ _ _ _ _)]
  unfold kernelRun1_A
  dsimp only
  sl_unfold_words
  simp only [View.readCov_unit_zero (S := S6000x128) _ hz, View.readCov_unit_zero (S := S4000x128) _ hz, View.readAt_eq_ld,
    Memref.IsWhole.read_unread, View.ld_unit_zero (S := S32x128) hz, rd0, rd1, rd2, rd3]
  rfl

/-- The third: the coarse digits. -/
theorem out6 : (outsAt1 V c t).2.2.1 = View.canon [⟨rI, k1_pay23 (latU (iblk1 V c 0 t) (iblk1 V c 1 t) (iblk1 V c 2 t)) (latI (iblk1 V c 0 t) (iblk1 V c 1 t) (iblk1 V c 3 t))⟩, ⟨rU, k1_pay22 (latU (iblk1 V c 0 t) (iblk1 V c 1 t) (iblk1 V c 2 t)) (latI (iblk1 V c 0 t) (iblk1 V c 1 t) (iblk1 V c 3 t))⟩] := by
  unfold outsAt1
  dsimp only
  unfold out1_A_6
  rw [View.read_writes_eq_canon _ _ _ (cover1_A_6 c _ _ _ _ _ _ _ _ _ _ _ _ _ _ _ _ _ _ _ _ _ _ _ _ _ _ _ _)]
  unfold kernelRun1_A
  dsimp only
  sl_unfold_words
  simp only [View.readCov_unit_zero (S := S6000x128) _ hz, View.readCov_unit_zero (S := S4000x128) _ hz, View.readAt_eq_ld,
    Memref.IsWhole.read_unread, View.ld_unit_zero (S := S32x128) hz, rd0, rd1, rd2, rd3]
  rfl

/-- The fourth: the fine digits. -/
theorem out7 : (outsAt1 V c t).2.2.2.1 = View.canon [⟨rI, k1_pay25 (latU (iblk1 V c 0 t) (iblk1 V c 1 t) (iblk1 V c 2 t)) (latI (iblk1 V c 0 t) (iblk1 V c 1 t) (iblk1 V c 3 t))⟩, ⟨rU, k1_pay24 (latU (iblk1 V c 0 t) (iblk1 V c 1 t) (iblk1 V c 2 t)) (latI (iblk1 V c 0 t) (iblk1 V c 1 t) (iblk1 V c 3 t))⟩] := by
  unfold outsAt1
  dsimp only
  unfold out1_A_7
  rw [View.read_writes_eq_canon _ _ _ (cover1_A_7 c _ _ _ _ _ _ _ _ _ _ _ _ _ _ _ _ _ _ _ _ _ _ _ _ _ _ _ _)]
  unfold kernelRun1_A
  dsimp only
  sl_unfold_words
  simp only [View.readCov_unit_zero (S := S6000x128) _ hz, View.readCov_unit_zero (S := S4000x128) _ hz, View.readAt_eq_ld,
    Memref.IsWhole.read_unread, View.ld_unit_zero (S := S32x128) hz, rd0, rd1, rd2, rd3]
  rfl

/-- The fifth: the three rows of scales and the correction. -/
theorem out8 : (outsAt1 V c t).2.2.2.2.1 = k1_pay1 (k1_pay14 (latU (iblk1 V c 0 t) (iblk1 V c 1 t) (iblk1 V c 2 t))) (k1_pay15 (latI (iblk1 V c 0 t) (iblk1 V c 1 t) (iblk1 V c 3 t))) (k1_pay16 (latU (iblk1 V c 0 t) (iblk1 V c 1 t) (iblk1 V c 2 t)) (latI (iblk1 V c 0 t) (iblk1 V c 1 t) (iblk1 V c 3 t))) := by
  unfold outsAt1
  dsimp only
  unfold out1_A_8
  rw [View.read_writes_eq_canon _ _ _ (cover1_A_8 c _ _ _ _ _ _ _ _ _ _ _ _ _ _ _ _ _ _ _ _ _ _ _ _ _ _ _ _)]
  unfold kernelRun1_A
  dsimp only
  sl_unfold_words
  simp only [View.readCov_unit_zero (S := S6000x128) _ hz, View.readCov_unit_zero (S := S4000x128) _ hz, View.readAt_eq_ld,
    Memref.IsWhole.read_unread, View.ld_unit_zero (S := S32x128) hz, rd0, rd1, rd2, rd3]
  rw [View.canon_unit_zero (S := S8x32) hz]
  rfl

/-- The sixth: the second hypergraph layer. -/
theorem out9 : (outsAt1 V c t).2.2.2.2.2 = View.canon [⟨rI, k1_pay13 (k1_pay7 (wI (iblk1 V c 1 t) (iblk1 V c 3 t))) (k1_pay8 (View.ld (iblk1 V c 1 t) rI) (wI (iblk1 V c 1 t) (iblk1 V c 3 t))) (View.ld (iblk1 V c 0 t) rI) (wI (iblk1 V c 1 t) (iblk1 V c 3 t)) (wI (iblk1 V c 1 t) (iblk1 V c 3 t))⟩, ⟨rU, k1_pay12 (hypU (iblk1 V c 1 t) (iblk1 V c 2 t)) (View.ld (iblk1 V c 0 t) rU) (wU (iblk1 V c 1 t) (iblk1 V c 2 t)) (wU (iblk1 V c 1 t) (iblk1 V c 2 t))⟩] := by
  unfold outsAt1
  dsimp only
  unfold out1_A_9
  rw [View.read_writes_eq_canon _ _ _ (cover1_A_9 c _ _ _ _ _ _ _ _ _ _ _ _ _ _ _ _ _ _ _ _ _ _ _ _ _ _ _ _)]
  unfold kernelRun1_A
  dsimp only
  sl_unfold_words
  simp only [View.readCov_unit_zero (S := S6000x128) _ hz, View.readCov_unit_zero (S := S4000x128) _ hz, View.readAt_eq_ld,
    Memref.IsWhole.read_unread, View.ld_unit_zero (S := S32x128) hz, rd0, rd1, rd2, rd3]
  rfl

end Cert.Proof.Hyper

end
-- ==== Proof.Quant.lean ====
/-
The integer quantiser in exact arithmetic: rounding, the signed 8-bit conversion, and the two digits of a scaled value.
-/
module

public import Idealize.ShloMosaic.PureOps.Ideal
public import Idealize.ShloMosaic.Lib.IdealHost
public import Mathlib.Tactic.Linarith
public import Mathlib.Tactic.NormNum
public import Mathlib.Tactic.FieldSimp
public import Mathlib.Tactic.Ring
public import Mathlib.Tactic.Positivity

@[expose] public section

namespace Cert.Proof.Quant

open Idealize.ShloMosaic

/-- Rounding to the nearest integer, ties to even, on the extended reals. -/
noncomputable abbrev R : EReal → EReal := Ideal.liftRound Ideal.roundHalfEven

/-- A signed 8-bit word as an exact number. -/
noncomputable abbrev num (b : BitVec 8) : EReal := ((b.toInt : ℝ) : EReal)

theorem abs_round_sub (x : ℝ) : |x - (Ideal.roundHalfEven x : ℝ)| ≤ 1 / 2 := by
  have h1 := Int.floor_le x
  have h2 := Int.lt_floor_add_one x
  unfold Ideal.roundHalfEven
  dsimp only
  rw [abs_le]
  split_ifs with a b c <;> push_cast <;> constructor <;> linarith

theorem round_bound (x : ℝ) (n : ℤ) (h : |x| ≤ n) : |Ideal.roundHalfEven x| ≤ n := by
  have h1 := abs_le.1 (abs_round_sub x)
  have h2 := abs_le.1 h
  rw [abs_le]
  constructor
  · have : (-(n : ℝ) - 1) < (Ideal.roundHalfEven x : ℝ) := by linarith
    have : (-n - 1 : ℤ) < Ideal.roundHalfEven x := by exact_mod_cast this
    omega
  · have : (Ideal.roundHalfEven x : ℝ) < (n : ℝ) + 1 := by linarith
    have : Ideal.roundHalfEven x < n + 1 := by exact_mod_cast this
    omega

theorem toInt_ofInt8 (z : ℤ) (h1 : -128 ≤ z) (h2 : z ≤ 127) : (BitVec.ofInt 8 z).toInt = z := by
  rw [BitVec.toInt_ofInt]
  apply Int.bmod_eq_of_le <;> omega

theorem fptosi_int (z : ℤ) : (Ideal.fptosi 8 ((z : ℝ) : EReal)).toInt = max (-128) (min 127 z) := by
  unfold Ideal.fptosi
  rw [Ideal.toIntClamped_coe, Int.floor_intCast, Int.ceil_intCast, ite_self]
  rw [show (-(2 ^ (8 - 1) : ℕ) : ℤ) = -128 by norm_num, show ((2 ^ (8 - 1) : ℕ) - 1 : ℤ) = 127 by norm_num]
  exact toInt_ofInt8 _ (le_max_left _ _) (max_le (by norm_num) (min_le_left _ _))

theorem num_fptosi_int (z : ℤ) (h1 : -128 ≤ z) (h2 : z ≤ 127) : num (Ideal.fptosi 8 ((z : ℝ) : EReal)) = ((z : ℝ) : EReal) := by
  unfold num
  rw [fptosi_int, min_eq_right h2, max_eq_right h1]

/-- The stored adjacency word is the level cut to 0..255, less 128. -/
theorem stored (a : EReal) :
    num (Ideal.fptosi 8 (R (a * ((255 : ℝ) : EReal)) - ((128 : ℝ) : EReal)))
      = min ((255 : ℝ) : EReal) (max ((0 : ℝ) : EReal) (R (a * ((255 : ℝ) : EReal)))) - ((128 : ℝ) : EReal) := by
  generalize a * ((255 : ℝ) : EReal) = y
  induction y with
  | bot =>
    have e : (Ideal.fptosi 8 (⊥ : EReal)).toInt = -128 := by
      unfold Ideal.fptosi; rw [Ideal.toIntClamped_bot]; decide
    show num (Ideal.fptosi 8 (⊥ - ((128 : ℝ) : EReal))) = min ((255 : ℝ) : EReal) (max ((0 : ℝ) : EReal) ⊥) - _
    rw [EReal.bot_sub, num, e, max_eq_left bot_le, min_eq_right (by exact_mod_cast (by norm_num : (0:ℝ) ≤ 255)), ← EReal.coe_sub]
    norm_num
  | top =>
    have e : (Ideal.fptosi 8 (⊤ : EReal)).toInt = 127 := by
      unfold Ideal.fptosi; rw [Ideal.toIntClamped_top]; decide
    show num (Ideal.fptosi 8 (⊤ - ((128 : ℝ) : EReal))) = min ((255 : ℝ) : EReal) (max ((0 : ℝ) : EReal) ⊤) - _
    rw [EReal.top_sub_coe, num, e, max_eq_right le_top, min_eq_left le_top, ← EReal.coe_sub]
    norm_num
  | coe y =>
    show num (Ideal.fptosi 8 (((Ideal.roundHalfEven y : ℝ) : EReal) - _)) = min _ (max _ ((Ideal.roundHalfEven y : ℝ) : EReal)) - _
    generalize Ideal.roundHalfEven y = z
    have e : (((z : ℝ) : EReal) - ((128 : ℝ) : EReal)) = (((z - 128 : ℤ) : ℝ) : EReal) := by
      rw [← EReal.coe_sub]; push_cast; rfl
    rw [e, num, fptosi_int, ← EReal.coe_strictMono.monotone.map_max, ← EReal.coe_strictMono.monotone.map_min, ← EReal.coe_sub]
    congr 1
    push_cast
    rcases le_total z 0 with h | h
    · have h' : (z : ℝ) ≤ 0 := by exact_mod_cast h
      rw [max_eq_left h', min_eq_right (a := (255:ℝ)) (by norm_num), min_eq_right (by linarith), max_eq_left (by linarith)]; norm_num
    · have h' : (0 : ℝ) ≤ z := by exact_mod_cast h
      rw [max_eq_right h']
      rcases le_total z 255 with g | g
      · have g' : (z : ℝ) ≤ 255 := by exact_mod_cast g
        rw [min_eq_right g', min_eq_right (by linarith), max_eq_right (by linarith)]
      · have g' : (255 : ℝ) ≤ z := by exact_mod_cast g
        rw [min_eq_left g', min_eq_left (by linarith), max_eq_right (by norm_num)]; norm_num

/-- The coarse digit of `v` at step `s`. -/
noncomputable abbrev coarse (v s : EReal) : EReal := R (Ideal.div v s)
/-- The fine digit: 128 times what the coarse digit leaves, rounded. -/
noncomputable abbrev fine (v s : EReal) : EReal :=
  R ((Ideal.div v s - R (Ideal.div v s)) * ((128 : ℝ) : EReal))

theorem div_top (v : EReal) : Ideal.div v ⊤ = 0 := by
  unfold Ideal.div; rw [if_neg (by simp)]; simp

theorem R_coe (x : ℝ) : R (x : EReal) = ((Ideal.roundHalfEven x : ℝ) : EReal) := rfl

theorem round_zero : Ideal.roundHalfEven 0 = 0 := by
  unfold Ideal.roundHalfEven; norm_num

theorem coarse_top (v : EReal) : coarse v ⊤ = 0 := by
  unfold coarse; rw [div_top, ← EReal.coe_zero, R_coe, round_zero]; norm_num

theorem fine_top (v : EReal) : fine v ⊤ = 0 := by
  unfold fine; rw [div_top, ← EReal.coe_zero, R_coe, round_zero]
  rw [← EReal.coe_sub, ← EReal.coe_mul, R_coe]; norm_num [round_zero]

/-- A step is large enough for a value: it is infinite, or both are finite and the value is at most 127 steps. -/
def Fits (v s : EReal) : Prop := s = ⊤ ∨ ∃ x σ : ℝ, 0 < σ ∧ s = (σ : EReal) ∧ v = (x : EReal) ∧ |x| ≤ 127 * σ

/-- Where the step fits, both digits are whole numbers a signed 8-bit word holds. -/
theorem digits (v s : EReal) (h : Fits v s) :
    num (Ideal.fptosi 8 (coarse v s)) = coarse v s ∧ num (Ideal.fptosi 8 (fine v s)) = fine v s := by
  rcases h with rfl | ⟨x, σ, hσ, rfl, rfl, hx⟩
  · rw [coarse_top, fine_top]
    have := num_fptosi_int 0 (by norm_num) (by norm_num)
    simp only [Int.cast_zero, EReal.coe_zero] at this
    exact ⟨this, this⟩
  · have ed : Ideal.div (x : EReal) (σ : EReal) = ((x / σ : ℝ) : EReal) := by
      rw [Ideal.div_coe hσ.ne', ← EReal.coe_mul, mul_one_div]
    have ht : |x / σ| ≤ ((127 : ℤ) : ℝ) := by
      rw [abs_div, abs_of_pos hσ, div_le_iff₀ hσ]; push_cast; exact hx
    unfold coarse fine
    rw [ed, R_coe]
    have hb := abs_le.1 (round_bound _ _ ht)
    refine ⟨num_fptosi_int _ (by linarith [hb.1]) hb.2, ?_⟩
    rw [← EReal.coe_sub, ← EReal.coe_mul, R_coe]
    have hf : |(x / σ - (Ideal.roundHalfEven (x / σ) : ℝ)) * 128| ≤ ((64 : ℤ) : ℝ) := by
      rw [abs_mul, abs_of_pos (by norm_num : (0:ℝ) < 128)]
      have := abs_round_sub (x / σ)
      push_cast; linarith
    have hc := abs_le.1 (round_bound _ _ hf)
    exact num_fptosi_int _ (by linarith [hc.1]) (by linarith [hc.2])

/-- The two integer dot products, scaled and added, are the dot product with the value put together again. -/
theorem recombine {n : ℕ} (s : EReal) (hs : 0 < s) (q h l : Fin n → ℤ) (htop : s = ⊤ → ∀ r, h r = 0 ∧ l r = 0) :
    (((∑ r, q r * h r : ℤ) : ℝ) : EReal) * s + (((∑ r, q r * l r : ℤ) : ℝ) : EReal) * (s * ((1 / 128 : ℝ) : EReal))
      = ∑ r, ((q r : ℝ) : EReal) * (s * (((h r : ℝ) : EReal) + Ideal.div ((l r : ℝ) : EReal) ((128 : ℝ) : EReal))) := by
  have h128 : (128 : ℝ) ≠ 0 := by norm_num
  simp only [Ideal.div_coe h128]
  induction s with
  | bot => exact absurd hs (by simp)
  | top =>
    have H := htop rfl
    simp only [fun r => (H r).1, fun r => (H r).2]
    simp
  | coe s =>
    simp only [← EReal.coe_mul, ← EReal.coe_add]
    have esum : ∀ f : Fin n → ℝ, (∑ r, ((f r : ℝ) : EReal)) = ((∑ r, f r : ℝ) : EReal) := fun f => by
      classical
      refine Finset.induction_on (Finset.univ : Finset (Fin n)) (by simp) ?_
      intro a t ha ih
      rw [Finset.sum_insert ha, Finset.sum_insert ha, ih, EReal.coe_add]
    rw [esum]
    congr 1
    push_cast
    rw [Finset.sum_mul, Finset.sum_mul, ← Finset.sum_add_distrib]
    exact Finset.sum_congr rfl fun r _ => by ring

end Cert.Proof.Quant
-- ==== Proof.Columns.lean ====
/-
A column of 10000 values, as its first 6000 and last 4000: its sum, its largest magnitude, and the step taken from it.
-/
module

public import proofs.«01_k».proof.Proof.Quant
public import Mathlib.Algebra.BigOperators.Fin
public import Mathlib.Data.Finset.Fold

@[expose] public section

namespace Cert.Proof.Columns

open Idealize.ShloMosaic Cert.Proof.Quant

/-- Row `r` of the first 6000. -/
abbrev up (r : Fin 6000) : Fin 10000 := ⟨r.val, by omega⟩
/-- Row `r` of the last 4000. -/
abbrev dn (r : Fin 4000) : Fin 10000 := ⟨6000 + r.val, by omega⟩

theorem cases_row (k : Fin 10000) : (∃ r, k = up r) ∨ ∃ r, k = dn r := by
  by_cases h : k.val < 6000
  · exact .inl ⟨⟨k.val, h⟩, rfl⟩
  · exact .inr ⟨⟨k.val - 6000, by omega⟩, Fin.ext (by show k.val = 6000 + (k.val - 6000); omega)⟩

theorem sum_rows {M : Type*} [AddCommMonoid M] (f : Fin 10000 → M) : ∑ k, f k = ∑ r, f (up r) + ∑ r, f (dn r) := by
  rw [show (∑ k, f k) = ∑ k : Fin (6000 + 4000), f (Fin.cast (by norm_num) k) from
    (Equiv.sum_comp (finCongr (by norm_num : 6000 + 4000 = 10000)) f).symm, Fin.sum_univ_add]
  rfl

theorem fold_max_rows (f : Fin 10000 → EReal) :
    Finset.univ.fold max ⊥ f = max (Finset.univ.fold max ⊥ fun r => f (up r)) (Finset.univ.fold max ⊥ fun r => f (dn r)) := by
  refine eq_of_forall_ge_iff fun c => ?_
  rw [max_le_iff, Finset.fold_max_le, Finset.fold_max_le, Finset.fold_max_le]
  constructor
  · rintro ⟨h, g⟩
    exact ⟨⟨h, fun r _ => g _ (Finset.mem_univ _)⟩, h, fun r _ => g _ (Finset.mem_univ _)⟩
  · rintro ⟨⟨h, g⟩, _, g'⟩
    refine ⟨h, fun k _ => ?_⟩
    rcases cases_row k with ⟨r, rfl⟩ | ⟨r, rfl⟩
    · exact g r (Finset.mem_univ _)
    · exact g' r (Finset.mem_univ _)

/-- The step of a column: its largest magnitude, kept off zero, over 127. -/
noncomputable abbrev step (tiny : EReal) (v : Fin 10000 → EReal) : EReal :=
  Ideal.div (max (Finset.univ.fold max ⊥ fun k => max (v k) (-(v k))) tiny) ((127 : ℝ) : EReal)

theorem step_pos (ε : ℝ) (hε : 0 < ε) (v : Fin 10000 → EReal) : 0 < step (ε : EReal) v := by
  unfold step
  rw [Ideal.div_coe (by norm_num)]
  have h : (ε : EReal) ≤ max (Finset.univ.fold max ⊥ fun k => max (v k) (-(v k))) (ε : EReal) := le_max_right _ _
  generalize max (Finset.univ.fold max ⊥ fun k => max (v k) (-(v k))) (ε : EReal) = M at h
  induction M with
  | bot => simp at h
  | top => rw [EReal.top_mul_coe_of_pos (by norm_num)]; exact EReal.coe_lt_top 0
  | coe M =>
    have h' : ε ≤ M := by exact_mod_cast h
    rw [← EReal.coe_mul]
    have : 0 < M * (1 / 127) := mul_pos (lt_of_lt_of_le hε h') (by norm_num)
    exact_mod_cast this

/-- Every value of the column fits its step. -/
theorem step_fits (ε : ℝ) (hε : 0 < ε) (v : Fin 10000 → EReal) (k : Fin 10000) : Fits (v k) (step (ε : EReal) v) := by
  unfold step
  rw [Ideal.div_coe (by norm_num)]
  have h : (ε : EReal) ≤ max (Finset.univ.fold max ⊥ fun k => max (v k) (-(v k))) (ε : EReal) := le_max_right _ _
  have hk : max (v k) (-(v k)) ≤ max (Finset.univ.fold max ⊥ fun k => max (v k) (-(v k))) (ε : EReal) :=
    le_trans (((Finset.fold_max_le (f := fun k => max (v k) (-(v k))) (b := ⊥) (s := Finset.univ) _).1 le_rfl).2 k
      (Finset.mem_univ k)) (le_max_left _ _)
  generalize max (Finset.univ.fold max ⊥ fun k => max (v k) (-(v k))) (ε : EReal) = M at h hk
  induction M with
  | bot => simp at h
  | top => left; exact EReal.top_mul_coe_of_pos (by norm_num)
  | coe M =>
    right
    have h' : ε ≤ M := by exact_mod_cast h
    obtain ⟨h1, h2⟩ := max_le_iff.1 hk
    generalize v k = y at h1 h2
    induction y with
    | bot => simp at h2
    | top => simp at h1
    | coe y =>
      refine ⟨y, M * (1 / 127), mul_pos (lt_of_lt_of_le hε h') (by norm_num), by rw [EReal.coe_mul], rfl, ?_⟩
      rw [← EReal.coe_neg] at h2
      have h1' : y ≤ M := by exact_mod_cast h1
      have h2' : -y ≤ M := by exact_mod_cast h2
      rw [abs_le]; constructor <;> linarith

end Cert.Proof.Columns
-- ==== Proof.Stack.lean ====
/-
An array of 10000 rows as two pieces, the first 6000 rows on top of the last 4000: how it is written, read back and
concatenated.
-/
module

public import proofs.«01_k».proof.Proof.HyperBlocks
public import proofs.«01_k».proof.Proof.Columns
public import Idealize.ShloMosaic.Lib.ValueIdxCore

@[expose] public section

set_option maxRecDepth 16384

noncomputable section

namespace Cert.Proof.Stack

open Idealize.ShloMosaic hiding ix2 eq_ix2
open Idealize.ShloMosaic.ValueIdx
open Cert.KernelIdeal Cert.KernelIdeal.Gen Cert.Proof.Hyper Cert.Proof.Columns

/-- `u` on top of `v`. -/
def stack {α : Type} (u : S6000x32.Idx → α) (v : S4000x32.Idx → α) : S10000x32.Idx → α := fun i =>
  if h : (i 0).val < 6000 then u (ix2 ⟨(i 0).val, h⟩ (i 1))
  else v (ix2 ⟨(i 0).val - 6000, by have h0 : (i 0).val < 10000 := (i 0).isLt; omega⟩ (i 1))

theorem stack_up {α : Type} (u : S6000x32.Idx → α) (v : S4000x32.Idx → α) (r : Fin 6000) (c : Fin 32) :
    stack u v (ix2 (up r) c) = u (ix2 r c) := by
  unfold stack
  rw [dif_pos (show ((ix2 (up r) c : S10000x32.Idx) 0).val < 6000 from r.isLt)]

theorem stack_dn {α : Type} (u : S6000x32.Idx → α) (v : S4000x32.Idx → α) (r : Fin 4000) (c : Fin 32) :
    stack u v (ix2 (dn r) c) = v (ix2 r c) := by
  unfold stack
  rw [dif_neg (show ¬ ((ix2 (dn r) c : S10000x32.Idx) 0).val < 6000 from by show ¬ 6000 + r.val < 6000; omega)]
  exact congrArg (fun a => v (ix2 a c)) (Fin.ext (Nat.add_sub_cancel_left 6000 r.val))

/-- Two 10000-row arrays agreeing on both pieces are equal. -/
theorem ext_rows {α : Type} {f g : S10000x32.Idx → α} (hu : ∀ (r : Fin 6000) (c : Fin 32), f (ix2 (up r) c) = g (ix2 (up r) c))
    (hd : ∀ (r : Fin 4000) (c : Fin 32), f (ix2 (dn r) c) = g (ix2 (dn r) c)) : f = g := by
  funext i
  rw [eq_ix2 i]
  rcases cases_row (i 0) with ⟨r, h⟩ | ⟨r, h⟩
  · have := hu r (i 1); rw [← h] at this; exact this
  · have := hd r (i 1); rw [← h] at this; exact this

variable {F : FTy → Type} [FloatOps F]

theorem emb_rU (r : Fin 6000) (c : Fin 32) : rU.emb (ix2 r c : S6000x32.Idx) = ix2 (up r) c := by
  funext a; apply Fin.ext; rw [Rect.emb_apply]
  match a with
  | ⟨0, _⟩ => show 0 + 1 * r.val = r.val; omega
  | ⟨1, _⟩ => show 0 + 1 * c.val = c.val; omega

theorem emb_rI (r : Fin 4000) (c : Fin 32) : rI.emb (ix2 r c : S4000x32.Idx) = ix2 (dn r) c := by
  funext a; apply Fin.ext; rw [Rect.emb_apply]
  match a with
  | ⟨0, _⟩ => show 6000 + 1 * r.val = 6000 + r.val; omega
  | ⟨1, _⟩ => show 0 + 1 * c.val = c.val; omega

/-- The rows read through the top rectangle. -/
theorem ld_rU {e : EltTy} (x : S10000x32.Idx → Elt F e) (r : Fin 6000) (c : Fin 32) :
    View.ld (Val := Elt F) (e' := e) x rU (ix2 r c) = x (ix2 (up r) c) := by
  show x (rU.emb (ix2 r c : S6000x32.Idx)) = _
  rw [emb_rU]

theorem ld_rI {e : EltTy} (x : S10000x32.Idx → Elt F e) (r : Fin 4000) (c : Fin 32) :
    View.ld (Val := Elt F) (e' := e) x rI (ix2 r c) = x (ix2 (dn r) c) := by
  show x (rI.emb (ix2 r c : S4000x32.Idx)) = _
  rw [emb_rI]

/-- What two stores, the bottom rows last, leave. -/
theorem canon_stack {e : EltTy} (v : S4000x32.Idx → Elt F e) (u : S6000x32.Idx → Elt F e) :
    View.canon (Val := Elt F) ([⟨rI, v⟩, ⟨rU, u⟩] : List (View.Piece (Elt F) S10000x32 e)) = stack u v := by
  refine ext_rows (fun r c => ?_) (fun r c => ?_)
  · rw [stack_up, View.canon_cons_of_not_mem (Val := Elt F) ⟨rI, v⟩ [⟨rU, u⟩]]
    · rw [← emb_rU]; exact View.canon_cons_emb (Val := Elt F) rU u [] (ix2 r c)
    · intro h
      have h1 : ix2 (up r) c ∈ rI.set := h
      unfold rI at h1
      have h0 : 6000 ≤ r.val := (Rect.mem_set_unit.1 h1 0).1
      omega
  · rw [stack_dn, ← emb_rI]; exact View.canon_cons_emb (Val := Elt F) rI v _ (ix2 r c)

/-- Concatenation along the rows is the stack. -/
theorem concat_stack {α : Type} (u : S6000x32.Idx → α) (v : S4000x32.Idx → α) (h : Shape.Concatenates [S6000x32, S4000x32] S10000x32 0) :
    concatenate S10000x32 0 [⟨S6000x32, u⟩, ⟨S4000x32, v⟩] h = stack u v := by
  refine ext_rows (fun r c => ?_) (fun r c => ?_)
  · rw [stack_up]
    exact concatenate_pair_apply_left (0 : Fin S10000x32.rank) u v h (ix2 (up r) c) rfl (ix2 r c) (fun b => by
      match b with
      | ⟨0, _⟩ => rfl
      | ⟨1, _⟩ => rfl)
  · rw [stack_dn]
    exact concatenate_pair_apply_right (0 : Fin S10000x32.rank) u v h (ix2 (dn r) c) rfl rfl (ix2 r c) (fun b hb => by
      match b, hb with
      | ⟨0, _⟩, hb => exact absurd rfl hb
      | ⟨1, _⟩, _ => rfl) (Nat.add_comm r.val 6000)

end Cert.Proof.Stack

end
-- ==== Proof.Consts.lean ====
/-
The float words both programs use, as the exact numbers they stand for.
-/
module

public import Idealize.ShloMosaic.PureOps.Ideal
public import Idealize.ShloMosaic.Lib.IdealHost
public import Mathlib.Tactic.NormNum

@[expose] public section

namespace Cert.Proof.Consts

open Idealize.ShloMosaic

/-- The word of 255. -/
theorem c255 : Ideal.ofBits .f32 0x437F0000#32 = ((255 : ℝ) : EReal) := by
  simp [Ideal.ofBits, Ideal.ieee, -EReal.coe_mul]; norm_num
/-- The word of 128. -/
theorem c128 : Ideal.ofBits .f32 0x43000000#32 = ((128 : ℝ) : EReal) := by
  simp [Ideal.ofBits, Ideal.ieee, -EReal.coe_mul]; norm_num
/-- The word of 127. -/
theorem c127 : Ideal.ofBits .f32 0x42FE0000#32 = ((127 : ℝ) : EReal) := by
  simp [Ideal.ofBits, Ideal.ieee, -EReal.coe_mul]; norm_num
/-- The word of 1/128. -/
theorem cInv128 : Ideal.ofBits .f32 0x3C000000#32 = ((1 / 128 : ℝ) : EReal) := by
  simp [Ideal.ofBits, Ideal.ieee, -EReal.coe_mul]; norm_num
/-- The word of 1. -/
theorem c1 : Ideal.ofBits .f32 0x3F800000#32 = ((1 : ℝ) : EReal) := by
  simp [Ideal.ofBits, Ideal.ieee, -EReal.coe_mul]; norm_num
/-- The word of 0. -/
theorem c0 : Ideal.ofBits .f32 0x00000000#32 = ((0 : ℝ) : EReal) := by
  simp [Ideal.ofBits, Ideal.ieee, -EReal.coe_mul]
/-- The word of minus infinity. -/
theorem cNegInf : Ideal.ofBits .f32 0xFF800000#32 = ⊥ := by
  simp [Ideal.ofBits, Ideal.ieee, -EReal.coe_mul]
/-- The guard word nearest 1e-30 is a positive real. -/
theorem cTiny : ∃ ε : ℝ, 0 < ε ∧ Ideal.ofBits .f32 0x0DA24260#32 = (ε : EReal) := by
  refine ⟨10633824 / 2 ^ 123, by norm_num, ?_⟩
  simp [Ideal.ofBits, Ideal.ieee, -EReal.coe_mul]; norm_num

end Cert.Proof.Consts
-- ==== Proof.HyperMath.lean ====
/-
One hypergraph layer on a block of rows, as sums: the hyperedge weights `w = x · H`, and `w · (wᵀ · x)` associated the
way the kernel and the reference both compute it.
-/
module

public import proofs.«01_k».proof.Proof.Stack
public import proofs.«01_k».proof.Proof.Consts
public import Idealize.ShloMosaic.Lib.MatmulPlain
public import Idealize.ShloMosaic.Lib.ValueIdx
public import Idealize.ShloMosaic.Lib.ValueLayout
public import Idealize.ShloMosaic.Lib.Pipeline.Value
public import Idealize.ShloMosaic.PureOps.Ideal.Laws

@[expose] public section

noncomputable section

namespace Cert.Proof.HyperMath

open Idealize.ShloMosaic hiding ix2 eq_ix2
open Idealize.ShloMosaic.ValueIdx
open Cert.KernelIdeal Cert.KernelIdeal.Gen Cert.Proof.Hyper

/-- A table of ideal numbers with `M` rows and `N` columns. -/
abbrev Tab (M N : ℕ) : Type := (⟨2, ![M, N]⟩ : Shape).Idx → EReal

/-- The hyperedge weights `x · H`. -/
def wts {M : ℕ} (x : Tab M 32) (H : Tab 32 128) : Tab M 128 := fun i => ∑ d : Fin 32, x (ix2 (i 0) d) * H (ix2 d (i 1))

/-- One hypergraph layer: `w · (wᵀ · x)`. -/
def hyp {M : ℕ} (w : Tab M 128) (x : Tab M 32) : Tab M 32 := fun i =>
  ∑ k : Fin 128, w (ix2 (i 0) k) * ∑ r : Fin M, w (ix2 r k) * x (ix2 r (i 1))

theorem zero_add_c0 (x : EReal) : Ideal.ofBits .f32 0x00000000#32 + x = x := by
  rw [Consts.c0, EReal.coe_zero, zero_add]

theorem lhsU (i : S128x32.Idx) (q : dot_S6000x128_S6000x32_S128x32_0_0_1_1_n_n.contr.Idx) : (dot_S6000x128_S6000x32_S128x32_0_0_1_1_n_n.lhsIdx i q 1).val = (i 0).val := by
  unfold DotDims.lhsIdx
  rw [dif_neg (show ¬(1 : Fin S6000x128.rank) ∈ dot_S6000x128_S6000x32_S128x32_0_0_1_1_n_n.lhsBatch by decide),
    dif_pos (show (1 : Fin S6000x128.rank) ∈ dot_S6000x128_S6000x32_S128x32_0_0_1_1_n_n.lhsNonContracting by decide)]
  rfl

theorem rhsU (i : S128x32.Idx) (q : dot_S6000x128_S6000x32_S128x32_0_0_1_1_n_n.contr.Idx) : (dot_S6000x128_S6000x32_S128x32_0_0_1_1_n_n.rhsIdx i q 1).val = (i 1).val := by
  unfold DotDims.rhsIdx
  rw [dif_neg (show ¬(1 : Fin S6000x32.rank) ∈ dot_S6000x128_S6000x32_S128x32_0_0_1_1_n_n.rhsBatch by decide),
    dif_pos (show (1 : Fin S6000x32.rank) ∈ dot_S6000x128_S6000x32_S128x32_0_0_1_1_n_n.rhsNonContracting by decide)]
  rfl

/-- The users' product with the left side transposed. -/
theorem gramU (w : FVec Ideal S6000x128 .bf16) (x : FVec Ideal S6000x32 .bf16) (acc : FVec Ideal S128x32 .f32) (i : S128x32.Idx) :
    FloatOps.matmul dot_S6000x128_S6000x32_S128x32_0_0_1_1_n_n none w x acc i = acc i + ∑ r : Fin 6000, w (ix2 r (i 0)) * x (ix2 r (i 1)) := by
  rw [Ideal.matmul_apply, ← Equiv.sum_comp (contrEquiv1 dot_S6000x128_S6000x32_S128x32_0_0_1_1_n_n 6000 rfl rfl).symm]
  refine congrArg (acc i + ·) (Finset.sum_congr rfl fun k _ => ?_)
  have hk := contrEquiv1_symm_val dot_S6000x128_S6000x32_S128x32_0_0_1_1_n_n 6000 rfl rfl k
  have el : dot_S6000x128_S6000x32_S128x32_0_0_1_1_n_n.lhsIdx i ((contrEquiv1 dot_S6000x128_S6000x32_S128x32_0_0_1_1_n_n 6000 rfl rfl).symm k) = ix2 k (i 0) :=
    funext fun a => Fin.ext (by
      match a with
      | ⟨0, _⟩ => exact (dot_S6000x128_S6000x32_S128x32_0_0_1_1_n_n.lhsIdx_val_of_single rfl i _).trans hk
      | ⟨1, _⟩ => exact lhsU i _)
  have er : dot_S6000x128_S6000x32_S128x32_0_0_1_1_n_n.rhsIdx i ((contrEquiv1 dot_S6000x128_S6000x32_S128x32_0_0_1_1_n_n 6000 rfl rfl).symm k) = ix2 k (i 1) :=
    funext fun a => Fin.ext (by
      match a with
      | ⟨0, _⟩ => exact (dot_S6000x128_S6000x32_S128x32_0_0_1_1_n_n.rhsIdx_val_of_single rfl i _).trans hk
      | ⟨1, _⟩ => exact rhsU i _)
  rw [el, er]
  rfl

theorem lhsI (i : S128x32.Idx) (q : dot_S4000x128_S4000x32_S128x32_0_0_1_1_n_n.contr.Idx) : (dot_S4000x128_S4000x32_S128x32_0_0_1_1_n_n.lhsIdx i q 1).val = (i 0).val := by
  unfold DotDims.lhsIdx
  rw [dif_neg (show ¬(1 : Fin S4000x128.rank) ∈ dot_S4000x128_S4000x32_S128x32_0_0_1_1_n_n.lhsBatch by decide),
    dif_pos (show (1 : Fin S4000x128.rank) ∈ dot_S4000x128_S4000x32_S128x32_0_0_1_1_n_n.lhsNonContracting by decide)]
  rfl

theorem rhsI (i : S128x32.Idx) (q : dot_S4000x128_S4000x32_S128x32_0_0_1_1_n_n.contr.Idx) : (dot_S4000x128_S4000x32_S128x32_0_0_1_1_n_n.rhsIdx i q 1).val = (i 1).val := by
  unfold DotDims.rhsIdx
  rw [dif_neg (show ¬(1 : Fin S4000x32.rank) ∈ dot_S4000x128_S4000x32_S128x32_0_0_1_1_n_n.rhsBatch by decide),
    dif_pos (show (1 : Fin S4000x32.rank) ∈ dot_S4000x128_S4000x32_S128x32_0_0_1_1_n_n.rhsNonContracting by decide)]
  rfl

/-- The items' product with the left side transposed. -/
theorem gramI (w : FVec Ideal S4000x128 .bf16) (x : FVec Ideal S4000x32 .bf16) (acc : FVec Ideal S128x32 .f32) (i : S128x32.Idx) :
    FloatOps.matmul dot_S4000x128_S4000x32_S128x32_0_0_1_1_n_n none w x acc i = acc i + ∑ r : Fin 4000, w (ix2 r (i 0)) * x (ix2 r (i 1)) := by
  rw [Ideal.matmul_apply, ← Equiv.sum_comp (contrEquiv1 dot_S4000x128_S4000x32_S128x32_0_0_1_1_n_n 4000 rfl rfl).symm]
  refine congrArg (acc i + ·) (Finset.sum_congr rfl fun k _ => ?_)
  have hk := contrEquiv1_symm_val dot_S4000x128_S4000x32_S128x32_0_0_1_1_n_n 4000 rfl rfl k
  have el : dot_S4000x128_S4000x32_S128x32_0_0_1_1_n_n.lhsIdx i ((contrEquiv1 dot_S4000x128_S4000x32_S128x32_0_0_1_1_n_n 4000 rfl rfl).symm k) = ix2 k (i 0) :=
    funext fun a => Fin.ext (by
      match a with
      | ⟨0, _⟩ => exact (dot_S4000x128_S4000x32_S128x32_0_0_1_1_n_n.lhsIdx_val_of_single rfl i _).trans hk
      | ⟨1, _⟩ => exact lhsI i _)
  have er : dot_S4000x128_S4000x32_S128x32_0_0_1_1_n_n.rhsIdx i ((contrEquiv1 dot_S4000x128_S4000x32_S128x32_0_0_1_1_n_n 4000 rfl rfl).symm k) = ix2 k (i 1) :=
    funext fun a => Fin.ext (by
      match a with
      | ⟨0, _⟩ => exact (dot_S4000x128_S4000x32_S128x32_0_0_1_1_n_n.rhsIdx_val_of_single rfl i _).trans hk
      | ⟨1, _⟩ => exact rhsI i _)
  rw [el, er]
  rfl

/-- The users' weights. -/
theorem pay4 (x : Tab 6000 32) (H : Tab 32 128) : k1_pay4 (F := Ideal) x H = wts x H := by
  funext i
  rw [eq_ix2 i]
  unfold k1_pay4 k1_pay2
  simp only [shapeCast_self]
  exact (Ideal.matmul_plain_apply (M := 6000) (K := 32) (N := 128) none _ _ _ (i 0) (i 1)).trans (zero_add_c0 _)

/-- The items' weights. -/
theorem pay5 (x : Tab 4000 32) (H : Tab 32 128) : k1_pay5 (F := Ideal) x H = wts x H := by
  funext i
  rw [eq_ix2 i]
  unfold k1_pay5 k1_pay3
  simp only [shapeCast_self]
  exact (Ideal.matmul_plain_apply (M := 4000) (K := 32) (N := 128) none _ _ _ (i 0) (i 1)).trans (zero_add_c0 _)

/-- The users' layer. -/
theorem pay6 (x : Tab 6000 32) (w : Tab 6000 128) : k1_pay6 (F := Ideal) x w w = hyp w x := by
  funext i
  rw [eq_ix2 i]
  unfold k1_pay6 k1_pay2
  simp only [shapeCast_self]
  refine (Ideal.matmul_plain_apply (M := 6000) (K := 128) (N := 32) none _ _ _ (i 0) (i 1)).trans ((zero_add_c0 _).trans ?_)
  refine Finset.sum_congr rfl fun k _ => ?_
  exact congrArg (w (ix2 (i 0) k) * ·) ((gramU _ _ _ (ix2 k (i 1))).trans (zero_add_c0 _))

/-- The items' layer. -/
theorem pay9 (x : Tab 4000 32) (w : Tab 4000 128) : k1_pay9 (F := Ideal) (k1_pay7 w) (k1_pay8 x w) = hyp w x := by
  funext i
  rw [eq_ix2 i]
  unfold k1_pay9 k1_pay8 k1_pay7 k1_pay3
  simp only [shapeCast_self]
  refine (Ideal.matmul_plain_apply (M := 4000) (K := 128) (N := 32) none _ _ _ (i 0) (i 1)).trans ((zero_add_c0 _).trans ?_)
  refine Finset.sum_congr rfl fun k _ => ?_
  exact congrArg (w (ix2 (i 0) k) * ·) ((gramI _ _ _ (ix2 k (i 1))).trans (zero_add_c0 _))

/-- The layer-1 sum on the users' rows. -/
theorem pay10 (h g : Tab 6000 32) : k1_pay10 (F := Ideal) h g = fun i => g i + h i := by
  unfold k1_pay10
  simp only [shapeCast_self]
  rfl

/-- The layer-1 sum on the items' rows. -/
theorem pay11 (x g : Tab 4000 32) (w : Tab 4000 128) :
    k1_pay11 (F := Ideal) (k1_pay7 w) (k1_pay8 x w) g = fun i => g i + hyp w x i := by
  unfold k1_pay11
  simp only [shapeCast_self, pay9]
  rfl

/-- The second layer on the users' rows. -/
theorem pay12 (h g : Tab 6000 32) (w : Tab 6000 128) : k1_pay12 (F := Ideal) h g w w = hyp w (fun i => g i + h i) := by
  funext i
  rw [eq_ix2 i]
  unfold k1_pay12
  rw [pay10]
  refine (Ideal.matmul_plain_apply (M := 6000) (K := 128) (N := 32) none _ _ _ (i 0) (i 1)).trans ((zero_add_c0 _).trans ?_)
  refine Finset.sum_congr rfl fun k _ => ?_
  exact congrArg (w (ix2 (i 0) k) * ·) ((gramU _ _ _ (ix2 k (i 1))).trans (zero_add_c0 _))

/-- The second layer on the items' rows. -/
theorem pay13 (x g : Tab 4000 32) (w : Tab 4000 128) :
    k1_pay13 (F := Ideal) (k1_pay7 w) (k1_pay8 x w) g w w = hyp w (fun i => g i + hyp w x i) := by
  funext i
  rw [eq_ix2 i]
  unfold k1_pay13
  rw [pay11]
  refine (Ideal.matmul_plain_apply (M := 4000) (K := 128) (N := 32) none _ _ _ (i 0) (i 1)).trans ((zero_add_c0 _).trans ?_)
  refine Finset.sum_congr rfl fun k _ => ?_
  exact congrArg (w (ix2 (i 0) k) * ·) ((gramI _ _ _ (ix2 k (i 1))).trans (zero_add_c0 _))

end Cert.Proof.HyperMath

end
-- ==== Proof.Levels.lean ====
/-
The two-digit split of the layer-1 sums, column by column: the levels, the step of a column, the two digits and the
three rows kept beside them, each read from the middle program's values.
-/
module

public import proofs.«01_k».proof.Proof.HyperMath
public import Idealize.ShloMosaic.PureOps.IdealRules

@[expose] public section

noncomputable section

namespace Cert.Proof.Levels

open Idealize.ShloMosaic hiding ix1 ix2 eq_ix2
open Idealize.ShloMosaic.ValueIdx
open Cert.KernelIdeal Cert.KernelIdeal.Gen Cert.Proof.Hyper Cert.Proof.HyperMath Cert.Proof.Stack Cert.Proof.Columns Cert.Proof.Quant

/-- The levels: the layer-1 sums over 255. -/
def lev (x : Tab 10000 32) (k : Fin 10000) (c : Fin 32) : EReal := Ideal.div (x (ix2 k c)) ((255 : ℝ) : EReal)

/-- The smallest magnitude a step is taken from. -/
def tiny : EReal := Ideal.ofBits .f32 0x0DA24260#32

/-- The step of column `c`. -/
def stp (x : Tab 10000 32) (c : Fin 32) : EReal := step tiny fun k => lev x k c

theorem stp_pos (x : Tab 10000 32) (c : Fin 32) : 0 < stp x c := by
  obtain ⟨ε, h, e⟩ := Consts.cTiny
  unfold stp tiny; rw [e]; exact step_pos ε h _

theorem stp_fits (x : Tab 10000 32) (k : Fin 10000) (c : Fin 32) : Fits (lev x k c) (stp x c) := by
  obtain ⟨ε, h, e⟩ := Consts.cTiny
  unfold stp tiny; rw [e]; exact step_fits ε h (fun k => lev x k c) k

/-- The coarse and the fine digit words. -/
def dig0 (x : Tab 10000 32) (i : S10000x32.Idx) : BitVec 8 := Ideal.fptosi 8 (coarse (lev x (i 0) (i 1)) (stp x (i 1)))
def dig1 (x : Tab 10000 32) (i : S10000x32.Idx) : BitVec 8 := Ideal.fptosi 8 (fine (lev x (i 0) (i 1)) (stp x (i 1)))

theorem inv255 : Named.named (F := Ideal) Cert.KernelIdeal.κ "inv255" (φ := .f32) 0x3B808081#32 = ((1 / 255 : ℝ) : EReal) :=
  IdealRules.named_const.ideal_named_scalar _ _ _ _ rfl
theorem inv127 : Named.named (F := Ideal) Cert.KernelIdeal.κ "inv127" (φ := .f32) 0x3C010204#32 = ((1 / 127 : ℝ) : EReal) :=
  IdealRules.named_const.ideal_named_scalar _ _ _ _ rfl

theorem lev14 (u : Tab 6000 32) (v : Tab 4000 32) (r : Fin 6000) (c : Fin 32) :
    k1_pay14 (F := Ideal) u (ix2 r c) = lev (stack u v) (up r) c := by
  unfold lev
  rw [stack_up, Ideal.div_coe (by norm_num)]
  exact congrArg (u (ix2 r c) * ·) inv255

theorem lev15 (u : Tab 6000 32) (v : Tab 4000 32) (r : Fin 4000) (c : Fin 32) :
    k1_pay15 (F := Ideal) v (ix2 r c) = lev (stack u v) (dn r) c := by
  unfold lev
  rw [stack_dn, Ideal.div_coe (by norm_num)]
  exact congrArg (v (ix2 r c) * ·) inv255

/-- A column's largest magnitude over the users' rows. -/
theorem maxU (w : Tab 6000 32) (h : S6000x32.Reduces [0] S32) (a b) (c : Fin 32) :
    multiReduction (F := Ideal) .maximumf [0] S32 (absf (φ := .f32) w) 0xFF800000#32 h a b (ix1 c)
      = Finset.univ.fold max ⊥ fun r => max (w (ix2 r c)) (-(w (ix2 r c))) := by
  rw [Ideal.multiReduction_maximumf_single]
  have e : ∀ r : Fin 6000, h.lift (ix1 c) r = ix2 r c := fun r => funext fun a => Fin.ext (by
    match a with
    | ⟨0, _⟩ => rfl
    | ⟨1, _⟩ => rfl)
  have hb : (FloatOps.ofBits .f32 0xFF800000#32 : Ideal .f32) = (⊥ : EReal) := Consts.cNegInf
  rw [hb]
  refine congrArg (Finset.fold max ⊥ · _) (funext fun r => ?_)
  show max (w (h.lift (ix1 c) r)) (-(w (h.lift (ix1 c) r))) = _
  rw [e r]

theorem maxI (w : Tab 4000 32) (h : S4000x32.Reduces [0] S32) (a b) (c : Fin 32) :
    multiReduction (F := Ideal) .maximumf [0] S32 (absf (φ := .f32) w) 0xFF800000#32 h a b (ix1 c)
      = Finset.univ.fold max ⊥ fun r => max (w (ix2 r c)) (-(w (ix2 r c))) := by
  rw [Ideal.multiReduction_maximumf_single]
  have e : ∀ r : Fin 4000, h.lift (ix1 c) r = ix2 r c := fun r => funext fun a => Fin.ext (by
    match a with
    | ⟨0, _⟩ => rfl
    | ⟨1, _⟩ => rfl)
  have hb : (FloatOps.ofBits .f32 0xFF800000#32 : Ideal .f32) = (⊥ : EReal) := Consts.cNegInf
  rw [hb]
  refine congrArg (Finset.fold max ⊥ · _) (funext fun r => ?_)
  show max (w (h.lift (ix1 c) r)) (-(w (h.lift (ix1 c) r))) = _
  rw [e r]

theorem sumU (w : Tab 6000 32) (h : S6000x32.Reduces [0] S32) (a b) (c : Fin 32) :
    multiReduction (F := Ideal) (φ := .f32) .add [0] S32 w 0x00000000#32 h a b (ix1 c) = ∑ r : Fin 6000, w (ix2 r c) := by
  rw [Ideal.multiReduction_add_single]
  refine Finset.sum_congr rfl fun r _ => congrArg w (funext fun a => Fin.ext ?_)
  match a with
  | ⟨0, _⟩ => rfl
  | ⟨1, _⟩ => rfl

theorem sumI (w : Tab 4000 32) (h : S4000x32.Reduces [0] S32) (a b) (c : Fin 32) :
    multiReduction (F := Ideal) (φ := .f32) .add [0] S32 w 0x00000000#32 h a b (ix1 c) = ∑ r : Fin 4000, w (ix2 r c) := by
  rw [Ideal.multiReduction_add_single]
  refine Finset.sum_congr rfl fun r _ => congrArg w (funext fun a => Fin.ext ?_)
  match a with
  | ⟨0, _⟩ => rfl
  | ⟨1, _⟩ => rfl

/-- The step row. -/
theorem step16 (u : Tab 6000 32) (v : Tab 4000 32) (c : Fin 32) :
    k1_pay16 (F := Ideal) u v (ix2 (0 : Fin 1) c) = stp (stack u v) c := by
  unfold stp step
  rw [Ideal.div_coe (by norm_num), fold_max_rows]
  have hu := maxU (k1_pay14 (F := Ideal) u) reduces_S6000x32_S32 (.inl rfl) rfl c
  have hv := maxI (k1_pay15 (F := Ideal) v) reduces_S4000x32_S32 (.inl rfl) rfl c
  simp only [lev14 u v] at hu
  simp only [lev15 u v] at hv
  rw [← hu, ← hv]
  have e1 := shapeCast_a_1a_apply (multiReduction (F := Ideal) .maximumf [0] S32 (absf (k1_pay14 (F := Ideal) u)) 0xFF800000#32 reduces_S6000x32_S32 (.inl rfl) rfl)
    shapeCasts_S32_S1x32 0 c
  have e2 := shapeCast_a_1a_apply (multiReduction (F := Ideal) .maximumf [0] S32 (absf (k1_pay15 (F := Ideal) v)) 0xFF800000#32 reduces_S4000x32_S32 (.inl rfl) rfl)
    shapeCasts_S32_S1x32 0 c
  rw [← e1, ← e2]
  exact congrArg (max (max _ _) tiny * ·) inv127

/-- Multiplying by the inverse of the step is dividing by it. -/
theorem mul_inv_step (a s : EReal) (h : 0 < s) : a * Ideal.div (Ideal.ofBits .f32 0x3F800000#32) s = Ideal.div a s := by
  rw [Consts.c1]
  unfold Ideal.div
  rw [if_neg (ne_of_gt h), if_neg (ne_of_gt h), EReal.coe_one, one_mul]

theorem scaled18 (u : Tab 6000 32) (v : Tab 4000 32) (r : Fin 6000) (c : Fin 32) :
    k1_pay18 (F := Ideal) u v (ix2 r c) = Ideal.div (lev (stack u v) (up r) c) (stp (stack u v) c) := by
  have e := broadcastTo_1b_ab_apply (k1_pay17 (F := Ideal) u v) broadcasts_S1x32_S6000x32 r c
  rw [← mul_inv_step _ _ (stp_pos (stack u v) c), ← lev14 u v, ← step16]
  have e0 : k1_pay18 (F := Ideal) u v = mulf (k1_pay14 (F := Ideal) u) (broadcastTo S6000x32 (k1_pay17 (F := Ideal) u v) broadcasts_S1x32_S6000x32) := rfl
  have e1 : k1_pay17 (F := Ideal) u v = divf (broadcast S1x32 (Scalar.ofBits .f32 0x3F800000#32)) (k1_pay16 (F := Ideal) u v) := rfl
  rw [e0, mulf_apply, e, e1, divf_apply]
  rfl

theorem scaled19 (u : Tab 6000 32) (v : Tab 4000 32) (r : Fin 4000) (c : Fin 32) :
    k1_pay19 (F := Ideal) u v (ix2 r c) = Ideal.div (lev (stack u v) (dn r) c) (stp (stack u v) c) := by
  have e := broadcastTo_1b_ab_apply (k1_pay17 (F := Ideal) u v) broadcasts_S1x32_S4000x32 r c
  rw [← mul_inv_step _ _ (stp_pos (stack u v) c), ← lev15 u v, ← step16]
  have e0 : k1_pay19 (F := Ideal) u v = mulf (k1_pay15 (F := Ideal) v) (broadcastTo S4000x32 (k1_pay17 (F := Ideal) u v) broadcasts_S1x32_S4000x32) := rfl
  have e1 : k1_pay17 (F := Ideal) u v = divf (broadcast S1x32 (Scalar.ofBits .f32 0x3F800000#32)) (k1_pay16 (F := Ideal) u v) := rfl
  rw [e0, mulf_apply, e, e1, divf_apply]
  rfl

/-- The coarse digits of all rows. -/
theorem coarse_rows (u : Tab 6000 32) (v : Tab 4000 32) :
    stack (k1_pay22 (F := Ideal) u v) (k1_pay23 (F := Ideal) u v) = dig0 (stack u v) := by
  refine ext_rows (fun r c => ?_) (fun r c => ?_)
  · rw [stack_up]
    have e : k1_pay22 (F := Ideal) u v (ix2 r c) = Ideal.fptosi 8 (R (k1_pay18 (F := Ideal) u v (ix2 r c))) := rfl
    rw [e, scaled18]
    rfl
  · rw [stack_dn]
    have e : k1_pay23 (F := Ideal) u v (ix2 r c) = Ideal.fptosi 8 (R (k1_pay19 (F := Ideal) u v (ix2 r c))) := rfl
    rw [e, scaled19]
    rfl

/-- The fine digits of all rows. -/
theorem fine_rows (u : Tab 6000 32) (v : Tab 4000 32) :
    stack (k1_pay24 (F := Ideal) u v) (k1_pay25 (F := Ideal) u v) = dig1 (stack u v) := by
  refine ext_rows (fun r c => ?_) (fun r c => ?_)
  · rw [stack_up]
    have e : k1_pay24 (F := Ideal) u v (ix2 r c)
        = Ideal.fptosi 8 (R ((k1_pay18 (F := Ideal) u v (ix2 r c) - R (k1_pay18 (F := Ideal) u v (ix2 r c))) * Ideal.ofBits .f32 0x43000000#32)) := rfl
    rw [e, scaled18, Consts.c128]
    rfl
  · rw [stack_dn]
    have e : k1_pay25 (F := Ideal) u v (ix2 r c)
        = Ideal.fptosi 8 (R ((k1_pay19 (F := Ideal) u v (ix2 r c) - R (k1_pay19 (F := Ideal) u v (ix2 r c))) * Ideal.ofBits .f32 0x43000000#32)) := rfl
    rw [e, scaled19, Consts.c128]
    rfl

/-- The first three rows of four pieces put on top of each other. -/
theorem cat0 (x0 x1 x2 : Tab 1 32) (x3 : Tab 5 32) (h : Shape.Concatenates [S1x32, S1x32, S1x32, S5x32] S8x32 0) (c : Fin 32) :
    concatenate S8x32 0 [⟨S1x32, x0⟩, ⟨S1x32, x1⟩, ⟨S1x32, x2⟩, ⟨S5x32, x3⟩] h (ix2 (0 : Fin 8) c) = x0 (ix2 (0 : Fin 1) c) :=
  concatenate_apply_piece (0 : Fin S8x32.rank) [⟨S1x32, x0⟩, ⟨S1x32, x1⟩, ⟨S1x32, x2⟩, ⟨S5x32, x3⟩] h (ix2 (0 : Fin 8) c) 0
    (show 0 < 4 by decide) S1x32 x0 rfl rfl 0 rfl (ix2 (0 : Fin 1) c) (fun b hb => by
      match b, hb with
      | ⟨0, _⟩, hb => exact absurd rfl hb
      | ⟨1, _⟩, _ => rfl) rfl

theorem cat1 (x0 x1 x2 : Tab 1 32) (x3 : Tab 5 32) (h : Shape.Concatenates [S1x32, S1x32, S1x32, S5x32] S8x32 0) (c : Fin 32) :
    concatenate S8x32 0 [⟨S1x32, x0⟩, ⟨S1x32, x1⟩, ⟨S1x32, x2⟩, ⟨S5x32, x3⟩] h (ix2 (1 : Fin 8) c) = x1 (ix2 (0 : Fin 1) c) :=
  concatenate_apply_piece (0 : Fin S8x32.rank) [⟨S1x32, x0⟩, ⟨S1x32, x1⟩, ⟨S1x32, x2⟩, ⟨S5x32, x3⟩] h (ix2 (1 : Fin 8) c) 1
    (show 1 < 4 by decide) S1x32 x1 rfl rfl 1 rfl (ix2 (0 : Fin 1) c) (fun b hb => by
      match b, hb with
      | ⟨0, _⟩, hb => exact absurd rfl hb
      | ⟨1, _⟩, _ => rfl) rfl

theorem cat2 (x0 x1 x2 : Tab 1 32) (x3 : Tab 5 32) (h : Shape.Concatenates [S1x32, S1x32, S1x32, S5x32] S8x32 0) (c : Fin 32) :
    concatenate S8x32 0 [⟨S1x32, x0⟩, ⟨S1x32, x1⟩, ⟨S1x32, x2⟩, ⟨S5x32, x3⟩] h (ix2 (2 : Fin 8) c) = x2 (ix2 (0 : Fin 1) c) :=
  concatenate_apply_piece (0 : Fin S8x32.rank) [⟨S1x32, x0⟩, ⟨S1x32, x1⟩, ⟨S1x32, x2⟩, ⟨S5x32, x3⟩] h (ix2 (2 : Fin 8) c) 2
    (show 2 < 4 by decide) S1x32 x2 rfl rfl 2 rfl (ix2 (0 : Fin 1) c) (fun b hb => by
      match b, hb with
      | ⟨0, _⟩, hb => exact absurd rfl hb
      | ⟨1, _⟩, _ => rfl) rfl

/-- The eight rows kept beside the digits. -/
def aux (u : Tab 6000 32) (v : Tab 4000 32) : Tab 8 32 :=
  k1_pay1 (F := Ideal) (k1_pay14 u) (k1_pay15 v) (k1_pay16 u v)

theorem aux0 (u : Tab 6000 32) (v : Tab 4000 32) (c : Fin 32) : aux u v (ix2 (0 : Fin 8) c) = stp (stack u v) c := by
  rw [← step16]
  exact cat0 _ _ _ _ concatenates_S1x32_S1x32_S1x32_S5x32_S8x32_d0 c

theorem aux1 (u : Tab 6000 32) (v : Tab 4000 32) (c : Fin 32) :
    aux u v (ix2 (1 : Fin 8) c) = stp (stack u v) c * ((1 / 128 : ℝ) : EReal) := by
  rw [← step16, ← Consts.cInv128]
  exact cat1 _ _ _ _ concatenates_S1x32_S1x32_S1x32_S5x32_S8x32_d0 c

theorem aux2 (u : Tab 6000 32) (v : Tab 4000 32) (c : Fin 32) :
    aux u v (ix2 (2 : Fin 8) c) = ((128 : ℝ) : EReal) * ∑ k, lev (stack u v) k c := by
  rw [sum_rows]
  simp only [← lev14 u v, ← lev15 u v]
  rw [← sumU _ reduces_S6000x32_S32 (.inl rfl) rfl c, ← sumI _ reduces_S4000x32_S32 (.inl rfl) rfl c]
  rw [← shapeCast_a_1a_apply (multiReduction (F := Ideal) .add [0] S32 (k1_pay14 (F := Ideal) u) 0x00000000#32 reduces_S6000x32_S32 (.inl rfl) rfl)
      shapeCasts_S32_S1x32 0 c,
    ← shapeCast_a_1a_apply (multiReduction (F := Ideal) .add [0] S32 (k1_pay15 (F := Ideal) v) 0x00000000#32 reduces_S4000x32_S32 (.inl rfl) rfl)
      shapeCasts_S32_S1x32 0 c, ← Consts.c128]
  exact cat2 _ _ _ _ concatenates_S1x32_S1x32_S1x32_S5x32_S8x32_d0 c

end Cert.Proof.Levels

end
-- ==== Proof.Stream0.lean ====
/-
The first streaming kernel reads 25 blocks of 400 adjacency rows. Its two result arrays as whole arrays: the first
graph layer, and the adjacency levels shifted by 128 and stored as 8-bit words.
-/
module

public import proofs.«01_k».proof.Proof.Levels
public import Idealize.ShloMosaic.Lib.MatmulPlain

@[expose] public section

set_option maxRecDepth 16384

noncomputable section

namespace Cert.Proof.Stream0

open Idealize.ShloMosaic hiding ix1 ix2 eq_ix1 eq_ix2
open Idealize.ShloMosaic.TcCoe Idealize.SL.Sem
open Idealize.ShloMosaic.ValueIdx
open Idealize.ShloMosaic.Pipeline (Dat)
open Cert.KernelIdeal Cert.KernelIdeal.Gen Cert.Proof.HyperMath Cert.Proof.Quant

/-- The first graph layer of an adjacency `A` against a scaled embedding table `B`. -/
def layer (A : Tab 10000 10000) (B : Tab 10000 32) : Tab 10000 32 := fun i =>
  ∑ k : Fin 10000, R (A (ix2 (i 0) k) * ((255 : ℝ) : EReal)) * B (ix2 k (i 1))

/-- The stored adjacency words. -/
def words (A : Tab 10000 10000) : IVec S10000x10000 8 := fun i =>
  Ideal.fptosi 8 (R (A i * ((255 : ℝ) : EReal)) - ((128 : ℝ) : EReal))

theorem pay1_at (x : Vec Ideal S400x10000 .f32) (i : S400x10000.Idx) : k0_pay1 (F := Ideal) x i = R (x i * ((255 : ℝ) : EReal)) := by
  have e : k0_pay1 (F := Ideal) x i = R (x i * Ideal.ofBits .f32 0x437F0000#32) := rfl
  rw [e, Consts.c255]

theorem pay2_at (x : Vec Ideal S400x10000 .f32) (i : S400x10000.Idx) :
    k0_pay2 (F := Ideal) x i = Ideal.fptosi 8 (R (x i * ((255 : ℝ) : EReal)) - ((128 : ℝ) : EReal)) := by
  have e : k0_pay2 (F := Ideal) x i = Ideal.fptosi 8 (k0_pay1 (F := Ideal) x i - Ideal.ofBits .f32 0x43000000#32) := rfl
  rw [e, pay1_at, Consts.c128]

theorem pay3_at (x : Vec Ideal S400x10000 .f32) (B : Vec Ideal S10000x32 .bf16) (p : Fin 400) (q : Fin 32) :
    k0_pay3 (F := Ideal) x B (ix2 p q) = ∑ k : Fin 10000, R (x (ix2 p k) * ((255 : ℝ) : EReal)) * B (ix2 k q) := by
  unfold k0_pay3
  simp only [shapeCast_self]
  refine ((Ideal.matmul_plain_apply (M := 400) (K := 10000) (N := 32) none _ _ _ p q).trans (zero_add_c0 _)).trans ?_
  refine Finset.sum_congr rfl fun k _ => ?_
  exact congrArg (· * B (ix2 k q)) (pay1_at x (ix2 p k))

variable (V : (c : Dev nD) → (b : Ref sig .tc) → Buf (Elt Ideal) ((c : Thread nD τ).loc b)) (c : Dev nD)

theorem hz : (![0, 0] : Fin 2 → ℕ) = fun _ => 0 := by funext a; fin_cases a <;> rfl

theorem offs : ∀ t : Fin cfg0.N, (win0_0.index t 0 * win0_0.size 0 = t.val * 400 ∧ win0_0.index t 1 * win0_0.size 1 = 0)
    ∧ (win0_1.index t 0 * win0_1.size 0 = 0 ∧ win0_1.index t 1 * win0_1.size 1 = 0)
    ∧ (win0_2.index t 0 * win0_2.size 0 = t.val * 400 ∧ win0_2.index t 1 * win0_2.size 1 = 0)
    ∧ (win0_3.index t 0 * win0_3.size 0 = t.val * 400 ∧ win0_3.index t 1 * win0_3.size 1 = 0) := by decide +kernel

theorem row_lt (t : Fin cfg0.N) (p : Fin 400) : t.val * 400 + p.val < 10000 := by
  have h : t.val < 25 := t.isLt
  omega

/-- Row `p` of block `t` in the whole array. -/
def row (t : Fin cfg0.N) (p : Fin 400) : Fin 10000 := ⟨t.val * 400 + p.val, row_lt t p⟩

theorem emb_0 (t : Fin cfg0.N) (p : Fin 400) (k : Fin 10000) : (win0_0.rect t).emb (ix2 p k) = ix2 (row t p) k :=
  funext fun a => Fin.ext (by
    match a with
    | ⟨0, _⟩ => exact (Pipeline.Window.rect_emb_val win0_0 t (ix2 p k) 0).trans (by rw [(offs t).1.1]; rfl)
    | ⟨1, _⟩ => exact (Pipeline.Window.rect_emb_val win0_0 t (ix2 p k) 1).trans (by rw [(offs t).1.2]; exact Nat.zero_add _))

theorem emb_1 (t : Fin cfg0.N) (p : Fin 10000) (k : Fin 32) : (win0_1.rect t).emb (ix2 p k) = ix2 p k :=
  funext fun a => Fin.ext (by
    match a with
    | ⟨0, _⟩ => exact (Pipeline.Window.rect_emb_val win0_1 t (ix2 p k) 0).trans (by rw [(offs t).2.1.1]; exact Nat.zero_add _)
    | ⟨1, _⟩ => exact (Pipeline.Window.rect_emb_val win0_1 t (ix2 p k) 1).trans (by rw [(offs t).2.1.2]; exact Nat.zero_add _))

theorem emb_2 (t : Fin cfg0.N) (p : Fin 400) (k : Fin 32) : (win0_2.rect t).emb (ix2 p k) = ix2 (row t p) k :=
  funext fun a => Fin.ext (by
    match a with
    | ⟨0, _⟩ => exact (Pipeline.Window.rect_emb_val win0_2 t (ix2 p k) 0).trans (by rw [(offs t).2.2.1.1]; rfl)
    | ⟨1, _⟩ => exact (Pipeline.Window.rect_emb_val win0_2 t (ix2 p k) 1).trans (by rw [(offs t).2.2.1.2]; exact Nat.zero_add _))

theorem emb_3 (t : Fin cfg0.N) (p : Fin 400) (k : Fin 10000) : (win0_3.rect t).emb (ix2 p k) = ix2 (row t p) k :=
  funext fun a => Fin.ext (by
    match a with
    | ⟨0, _⟩ => exact (Pipeline.Window.rect_emb_val win0_3 t (ix2 p k) 0).trans (by rw [(offs t).2.2.2.1]; rfl)
    | ⟨1, _⟩ => exact (Pipeline.Window.rect_emb_val win0_3 t (ix2 p k) 1).trans (by rw [(offs t).2.2.2.2]; exact Nat.zero_add _))

theorem blk0_at (t : Fin cfg0.N) (p : Fin 400) (k : Fin 10000) :
    iblk0 V c 0 t (ix2 p k) = (V c main_arg0 : Tab 10000 10000) (ix2 (row t p) k) :=
  congrArg (V c main_arg0 : Tab 10000 10000) (emb_0 t p k)

theorem blk1_at (t : Fin cfg0.N) (p : Fin 10000) (k : Fin 32) :
    iblk0 V c 1 t (ix2 p k) = (V c main_call0_v2 : Tab 10000 32) (ix2 p k) :=
  congrArg (V c main_call0_v2 : Tab 10000 32) (emb_1 t p k)

theorem flushed_2 (t : Fin cfg0.N) :
    (dat0 V c).flushed 2 t = ((cfg0.win 2).blk t).view.read (Elt Ideal) (layer (V c main_arg0) (V c main_call0_v2)) := by
  show (cfg0.win 2).cut (grid0.coords t) ((dat0 V c).after 2 t) = _
  rw [after0_2]
  unfold out0_2
  rw [View.canon_unit_zero hz, View.ld_unit_zero hz, View.ld_unit_zero hz]
  funext j
  obtain ⟨p, q, rfl⟩ : ∃ (p : Fin 400) (q : Fin 32), j = ix2 p q := ⟨j 0, j 1, eq_ix2 j⟩
  show k0_pay3 (F := Ideal) (iblk0 V c 0 t) (iblk0 V c 1 t) (ix2 p q) = layer (V c main_arg0) (V c main_call0_v2) ((win0_2.rect t).emb (ix2 p q))
  rw [emb_2, pay3_at]
  exact Finset.sum_congr rfl fun k _ => by rw [blk0_at, blk1_at]

theorem flushed_3 (t : Fin cfg0.N) :
    (dat0 V c).flushed 3 t = ((cfg0.win 3).blk t).view.read (Elt Ideal) (words (V c main_arg0)) := by
  show (cfg0.win 3).cut (grid0.coords t) ((dat0 V c).after 3 t) = _
  rw [after0_3]
  unfold out0_3
  rw [View.canon_unit_zero hz, View.ld_unit_zero hz]
  funext j
  obtain ⟨p, q, rfl⟩ : ∃ (p : Fin 400) (q : Fin 10000), j = ix2 p q := ⟨j 0, j 1, eq_ix2 j⟩
  show k0_pay2 (F := Ideal) (iblk0 V c 0 t) (ix2 p q) = words (V c main_arg0) ((win0_3.rect t).emb (ix2 p q))
  rw [emb_3, pay2_at, blk0_at]
  rfl

/-- The block a row lies in. -/
def blockOf (r : Fin 10000) : Fin cfg0.N := ⟨r.val / 400, by have := r.isLt; show r.val / 400 < 25; omega⟩

theorem sizes : ∀ t : Fin cfg0.N, (win0_2.xsize (grid0.coords t) 0 = 400 ∧ win0_2.xsize (grid0.coords t) 1 = 32)
    ∧ (win0_3.xsize (grid0.coords t) 0 = 400 ∧ win0_3.xsize (grid0.coords t) 1 = 10000) := by decide +kernel

theorem cover_2 (i : S10000x32.Idx) : ∃ t : Fin cfg0.N, (cfg0.win 2).flush t = true ∧ i ∈ ((cfg0.win 2).blk t).view.set := by
  refine ⟨blockOf (i 0), flush0_2 _, ?_⟩
  show i ∈ ((View.whole main_v1_1).slice (win0_2.rect (blockOf (i 0)))).set
  erw [View.set_slice_whole]
  refine (Pipeline.Window.mem_rect_iff win0_2 (blockOf (i 0)) i (by rfl)).mpr fun a => ?_
  have h0 : (i 0).val < 10000 := (i 0).isLt
  have h1 : (i 1).val < 32 := (i 1).isLt
  match a with
  | ⟨0, _⟩ =>
    show win0_2.index (blockOf (i 0)) 0 * win0_2.size 0 ≤ (i 0).val ∧ (i 0).val < win0_2.index (blockOf (i 0)) 0 * win0_2.size 0 + win0_2.xsize (grid0.coords (blockOf (i 0))) 0
    rw [(offs _).2.2.1.1, (sizes _).1.1]
    show (i 0).val / 400 * 400 ≤ (i 0).val ∧ (i 0).val < (i 0).val / 400 * 400 + 400
    omega
  | ⟨1, _⟩ =>
    show win0_2.index (blockOf (i 0)) 1 * win0_2.size 1 ≤ (i 1).val ∧ (i 1).val < win0_2.index (blockOf (i 0)) 1 * win0_2.size 1 + win0_2.xsize (grid0.coords (blockOf (i 0))) 1
    rw [(offs _).2.2.1.2, (sizes _).1.2]
    omega

theorem cover_3 (i : S10000x10000.Idx) : ∃ t : Fin cfg0.N, (cfg0.win 3).flush t = true ∧ i ∈ ((cfg0.win 3).blk t).view.set := by
  refine ⟨blockOf (i 0), flush0_3 _, ?_⟩
  show i ∈ ((View.whole main_call0_v3_1).slice (win0_3.rect (blockOf (i 0)))).set
  erw [View.set_slice_whole]
  refine (Pipeline.Window.mem_rect_iff win0_3 (blockOf (i 0)) i (by rfl)).mpr fun a => ?_
  have h0 : (i 0).val < 10000 := (i 0).isLt
  have h1 : (i 1).val < 10000 := (i 1).isLt
  match a with
  | ⟨0, _⟩ =>
    show win0_3.index (blockOf (i 0)) 0 * win0_3.size 0 ≤ (i 0).val ∧ (i 0).val < win0_3.index (blockOf (i 0)) 0 * win0_3.size 0 + win0_3.xsize (grid0.coords (blockOf (i 0))) 0
    rw [(offs _).2.2.2.1, (sizes _).2.1]
    show (i 0).val / 400 * 400 ≤ (i 0).val ∧ (i 0).val < (i 0).val / 400 * 400 + 400
    omega
  | ⟨1, _⟩ =>
    show win0_3.index (blockOf (i 0)) 1 * win0_3.size 1 ≤ (i 1).val ∧ (i 1).val < win0_3.index (blockOf (i 0)) 1 * win0_3.size 1 + win0_3.xsize (grid0.coords (blockOf (i 0))) 1
    rw [(offs _).2.2.2.2, (sizes _).2.2]
    omega

/-- The first graph layer, as a whole array. -/
theorem final_2 : (dat0 V c).arrAt 2 cfg0.N = layer (V c main_arg0) (V c main_call0_v2) :=
  (dat0 V c).arrAt_eq_of_cover 2 (layer (V c main_arg0) (V c main_call0_v2)) (fun t _ => flushed_2 V c t) cover_2

/-- The stored adjacency words, as a whole array. -/
theorem final_3 : (dat0 V c).arrAt 3 cfg0.N = words (V c main_arg0) :=
  (dat0 V c).arrAt_eq_of_cover 3 (words (V c main_arg0)) (fun t _ => flushed_3 V c t) cover_3

end Cert.Proof.Stream0
-- ==== Proof.Hyper1.lean ====
/-
The middle kernel's six result arrays as whole arrays, each a function of the four arrays it reads: the first graph
layer `G`, the embeddings `E`, and the two hyperedge matrices `HU`, `HI`.
-/
module

public import proofs.«01_k».proof.Proof.Levels

@[expose] public section

set_option maxRecDepth 16384

noncomputable section

namespace Cert.Proof.Hyper1

open Idealize.ShloMosaic hiding ix1 ix2 eq_ix1 eq_ix2
open Idealize.ShloMosaic.TcCoe Idealize.SL.Sem
open Idealize.ShloMosaic.ValueIdx
open Idealize.ShloMosaic.Pipeline (Dat)
open Cert.KernelIdeal Cert.KernelIdeal.Gen Cert.Proof.Columns Cert.Proof.HyperMath Cert.Proof.Hyper Cert.Proof.Stack Cert.Proof.Quant Cert.Proof.Levels

variable (V : (c : Dev nD) → (b : Ref sig .tc) → Buf (Elt Ideal) ((c : Thread nD τ).loc b)) (c : Dev nD)

theorem blk0 (t : Fin cfg1.N) : iblk1 V c 0 t = V c main_v1_1 :=
  funext fun j => congrArg (V c main_v1_1) (funext fun a => Fin.ext (Pipeline.Window.rect_emb_val_of_index_zero win1_0 t a rfl j))
theorem blk1 (t : Fin cfg1.N) : iblk1 V c 1 t = V c main_v0 :=
  funext fun j => congrArg (V c main_v0) (funext fun a => Fin.ext (Pipeline.Window.rect_emb_val_of_index_zero win1_1 t a rfl j))
theorem blk2 (t : Fin cfg1.N) : iblk1 V c 2 t = V c main_arg4 :=
  funext fun j => congrArg (V c main_arg4) (funext fun a => Fin.ext (Pipeline.Window.rect_emb_val_of_index_zero win1_2 t a rfl j))
theorem blk3 (t : Fin cfg1.N) : iblk1 V c 3 t = V c main_arg5 :=
  funext fun j => congrArg (V c main_arg5) (funext fun a => Fin.ext (Pipeline.Window.rect_emb_val_of_index_zero win1_3 t a rfl j))

/-- The one point. -/
def t0 : Fin cfg1.N := ⟨0, by decide⟩

theorem cover_4 (i : S10000x32.Idx) : ∃ t : Fin cfg1.N, (cfg1.win 4).flush t = true ∧ i ∈ ((cfg1.win 4).blk t).view.set := by
  refine ⟨t0, flush1_4 _, ?_⟩
  show i ∈ ((View.whole main_v1_3).slice (win1_4.rect t0)).set
  erw [View.set_slice_whole]
  refine (Pipeline.Window.mem_rect_iff win1_4 t0 i (by rfl)).mpr fun a => ?_
  have e : win1_4.index t0 a * win1_4.size a = 0 := Nat.zero_mul _
  have e' : win1_4.xsize (grid1.coords t0) a = S10000x32.size a := by revert a; decide +kernel
  rw [e, e', Nat.zero_add]
  exact ⟨Nat.zero_le _, (i a).isLt⟩

theorem whole_4 : (dat1 V c).arrAt 4 cfg1.N = (outsAt1 V c t0).1 :=
  (dat1 V c).arrAt_eq_of_cover 4 (outsAt1 V c t0).1 (fun t _ => by
    show (cfg1.win 4).cut (grid1.coords t) ((dat1 V c).after 4 t) = _
    rw [after1_4]
    obtain rfl : t = t0 := Fin.ext (by have h : t.val < 1 := t.isLt; show t.val = 0; omega)
    exact funext fun j => congrArg (outsAt1 V c t0).1 (funext fun a => Fin.ext (Pipeline.Window.rect_emb_val_of_index_zero win1_4 t0 a rfl j).symm)) cover_4

theorem cover_5 (i : S10000x32.Idx) : ∃ t : Fin cfg1.N, (cfg1.win 5).flush t = true ∧ i ∈ ((cfg1.win 5).blk t).view.set := by
  refine ⟨t0, flush1_5 _, ?_⟩
  show i ∈ ((View.whole main_call0_v4_1).slice (win1_5.rect t0)).set
  erw [View.set_slice_whole]
  refine (Pipeline.Window.mem_rect_iff win1_5 t0 i (by rfl)).mpr fun a => ?_
  have e : win1_5.index t0 a * win1_5.size a = 0 := Nat.zero_mul _
  have e' : win1_5.xsize (grid1.coords t0) a = S10000x32.size a := by revert a; decide +kernel
  rw [e, e', Nat.zero_add]
  exact ⟨Nat.zero_le _, (i a).isLt⟩

theorem whole_5 : (dat1 V c).arrAt 5 cfg1.N = (outsAt1 V c t0).2.1 :=
  (dat1 V c).arrAt_eq_of_cover 5 (outsAt1 V c t0).2.1 (fun t _ => by
    show (cfg1.win 5).cut (grid1.coords t) ((dat1 V c).after 5 t) = _
    rw [after1_5]
    obtain rfl : t = t0 := Fin.ext (by have h : t.val < 1 := t.isLt; show t.val = 0; omega)
    exact funext fun j => congrArg (outsAt1 V c t0).2.1 (funext fun a => Fin.ext (Pipeline.Window.rect_emb_val_of_index_zero win1_5 t0 a rfl j).symm)) cover_5

theorem cover_6 (i : S10000x32.Idx) : ∃ t : Fin cfg1.N, (cfg1.win 6).flush t = true ∧ i ∈ ((cfg1.win 6).blk t).view.set := by
  refine ⟨t0, flush1_6 _, ?_⟩
  show i ∈ ((View.whole main_call0_v4_2).slice (win1_6.rect t0)).set
  erw [View.set_slice_whole]
  refine (Pipeline.Window.mem_rect_iff win1_6 t0 i (by rfl)).mpr fun a => ?_
  have e : win1_6.index t0 a * win1_6.size a = 0 := Nat.zero_mul _
  have e' : win1_6.xsize (grid1.coords t0) a = S10000x32.size a := by revert a; decide +kernel
  rw [e, e', Nat.zero_add]
  exact ⟨Nat.zero_le _, (i a).isLt⟩

theorem whole_6 : (dat1 V c).arrAt 6 cfg1.N = (outsAt1 V c t0).2.2.1 :=
  (dat1 V c).arrAt_eq_of_cover 6 (outsAt1 V c t0).2.2.1 (fun t _ => by
    show (cfg1.win 6).cut (grid1.coords t) ((dat1 V c).after 6 t) = _
    rw [after1_6]
    obtain rfl : t = t0 := Fin.ext (by have h : t.val < 1 := t.isLt; show t.val = 0; omega)
    exact funext fun j => congrArg (outsAt1 V c t0).2.2.1 (funext fun a => Fin.ext (Pipeline.Window.rect_emb_val_of_index_zero win1_6 t0 a rfl j).symm)) cover_6

theorem cover_7 (i : S10000x32.Idx) : ∃ t : Fin cfg1.N, (cfg1.win 7).flush t = true ∧ i ∈ ((cfg1.win 7).blk t).view.set := by
  refine ⟨t0, flush1_7 _, ?_⟩
  show i ∈ ((View.whole main_call0_v4_3).slice (win1_7.rect t0)).set
  erw [View.set_slice_whole]
  refine (Pipeline.Window.mem_rect_iff win1_7 t0 i (by rfl)).mpr fun a => ?_
  have e : win1_7.index t0 a * win1_7.size a = 0 := Nat.zero_mul _
  have e' : win1_7.xsize (grid1.coords t0) a = S10000x32.size a := by revert a; decide +kernel
  rw [e, e', Nat.zero_add]
  exact ⟨Nat.zero_le _, (i a).isLt⟩

theorem whole_7 : (dat1 V c).arrAt 7 cfg1.N = (outsAt1 V c t0).2.2.2.1 :=
  (dat1 V c).arrAt_eq_of_cover 7 (outsAt1 V c t0).2.2.2.1 (fun t _ => by
    show (cfg1.win 7).cut (grid1.coords t) ((dat1 V c).after 7 t) = _
    rw [after1_7]
    obtain rfl : t = t0 := Fin.ext (by have h : t.val < 1 := t.isLt; show t.val = 0; omega)
    exact funext fun j => congrArg (outsAt1 V c t0).2.2.2.1 (funext fun a => Fin.ext (Pipeline.Window.rect_emb_val_of_index_zero win1_7 t0 a rfl j).symm)) cover_7

theorem cover_8 (i : S8x32.Idx) : ∃ t : Fin cfg1.N, (cfg1.win 8).flush t = true ∧ i ∈ ((cfg1.win 8).blk t).view.set := by
  refine ⟨t0, flush1_8 _, ?_⟩
  show i ∈ ((View.whole main_call0_v4_4).slice (win1_8.rect t0)).set
  erw [View.set_slice_whole]
  refine (Pipeline.Window.mem_rect_iff win1_8 t0 i (by rfl)).mpr fun a => ?_
  have e : win1_8.index t0 a * win1_8.size a = 0 := Nat.zero_mul _
  have e' : win1_8.xsize (grid1.coords t0) a = S8x32.size a := by revert a; decide +kernel
  rw [e, e', Nat.zero_add]
  exact ⟨Nat.zero_le _, (i a).isLt⟩

theorem whole_8 : (dat1 V c).arrAt 8 cfg1.N = (outsAt1 V c t0).2.2.2.2.1 :=
  (dat1 V c).arrAt_eq_of_cover 8 (outsAt1 V c t0).2.2.2.2.1 (fun t _ => by
    show (cfg1.win 8).cut (grid1.coords t) ((dat1 V c).after 8 t) = _
    rw [after1_8]
    obtain rfl : t = t0 := Fin.ext (by have h : t.val < 1 := t.isLt; show t.val = 0; omega)
    exact funext fun j => congrArg (outsAt1 V c t0).2.2.2.2.1 (funext fun a => Fin.ext (Pipeline.Window.rect_emb_val_of_index_zero win1_8 t0 a rfl j).symm)) cover_8

theorem cover_9 (i : S10000x32.Idx) : ∃ t : Fin cfg1.N, (cfg1.win 9).flush t = true ∧ i ∈ ((cfg1.win 9).blk t).view.set := by
  refine ⟨t0, flush1_9 _, ?_⟩
  show i ∈ ((View.whole main_v1_4).slice (win1_9.rect t0)).set
  erw [View.set_slice_whole]
  refine (Pipeline.Window.mem_rect_iff win1_9 t0 i (by rfl)).mpr fun a => ?_
  have e : win1_9.index t0 a * win1_9.size a = 0 := Nat.zero_mul _
  have e' : win1_9.xsize (grid1.coords t0) a = S10000x32.size a := by revert a; decide +kernel
  rw [e, e', Nat.zero_add]
  exact ⟨Nat.zero_le _, (i a).isLt⟩

theorem whole_9 : (dat1 V c).arrAt 9 cfg1.N = (outsAt1 V c t0).2.2.2.2.2 :=
  (dat1 V c).arrAt_eq_of_cover 9 (outsAt1 V c t0).2.2.2.2.2 (fun t _ => by
    show (cfg1.win 9).cut (grid1.coords t) ((dat1 V c).after 9 t) = _
    rw [after1_9]
    obtain rfl : t = t0 := Fin.ext (by have h : t.val < 1 := t.isLt; show t.val = 0; omega)
    exact funext fun j => congrArg (outsAt1 V c t0).2.2.2.2.2 (funext fun a => Fin.ext (Pipeline.Window.rect_emb_val_of_index_zero win1_9 t0 a rfl j).symm)) cover_9

/-- The first hypergraph layer. -/
def hyp0 (u : Tab 6000 32) (v : Tab 4000 32) (HU HI : Tab 32 128) : Tab 10000 32 := stack (hyp (wts u HU) u) (hyp (wts v HI) v)

/-- The layer-1 sums. -/
def lat1 (G : Tab 10000 32) (u : Tab 6000 32) (v : Tab 4000 32) (HU HI : Tab 32 128) : Tab 10000 32 := fun i => G i + hyp0 u v HU HI i

/-- The second hypergraph layer, on a table `L`. -/
def hyp1 (L : Tab 10000 32) (u : Tab 6000 32) (v : Tab 4000 32) (HU HI : Tab 32 128) : Tab 10000 32 :=
  stack (hyp (wts u HU) fun i => L (ix2 (up (i 0)) (i 1))) (hyp (wts v HI) fun i => L (ix2 (dn (i 0)) (i 1)))

theorem ld_up (u : Tab 6000 32) (v : Tab 4000 32) : View.ld (Val := Elt Ideal) (e' := .f32) (stack u v) rU = u := by
  funext j
  obtain ⟨p, q, rfl⟩ : ∃ (p : Fin 6000) (q : Fin 32), j = ix2 p q := ⟨j 0, j 1, eq_ix2 j⟩
  rw [ld_rU, stack_up]

theorem ld_dn (u : Tab 6000 32) (v : Tab 4000 32) : View.ld (Val := Elt Ideal) (e' := .f32) (stack u v) rI = v := by
  funext j
  obtain ⟨p, q, rfl⟩ : ∃ (p : Fin 4000) (q : Fin 32), j = ix2 p q := ⟨j 0, j 1, eq_ix2 j⟩
  rw [ld_rI, stack_dn]

variable (G : Tab 10000 32) (u : Tab 6000 32) (v : Tab 4000 32) (HU HI : Tab 32 128)

theorem wU_eq : wU (F := Ideal) (stack u v) HU = wts u HU := by unfold wU; rw [ld_up, pay4]
theorem wI_eq : wI (F := Ideal) (stack u v) HI = wts v HI := by unfold wI; rw [ld_dn, pay5]
theorem hypU_eq : hypU (F := Ideal) (stack u v) HU = hyp (wts u HU) u := by unfold hypU; rw [wU_eq, ld_up, pay6]
theorem hypI_eq : hypI (F := Ideal) (stack u v) HI = hyp (wts v HI) v := by unfold hypI; rw [wI_eq, ld_dn, pay9]

theorem latU_eq : latU (F := Ideal) G (stack u v) HU = fun i : S6000x32.Idx => lat1 G u v HU HI (ix2 (up (i 0)) (i 1)) := by
  unfold latU
  rw [hypU_eq, pay10]
  funext j
  obtain ⟨p, q, rfl⟩ : ∃ (p : Fin 6000) (q : Fin 32), j = ix2 p q := ⟨j 0, j 1, eq_ix2 j⟩
  show View.ld (Val := Elt Ideal) (e' := .f32) G rU (ix2 p q) + _ = G (ix2 (up p) q) + stack _ _ (ix2 (up p) q)
  rw [stack_up]
  exact congrArg (· + _) (ld_rU (F := Ideal) (e := .f32) G p q)

theorem latI_eq : latI (F := Ideal) G (stack u v) HI = fun i : S4000x32.Idx => lat1 G u v HU HI (ix2 (dn (i 0)) (i 1)) := by
  unfold latI
  rw [wI_eq, ld_dn, pay11]
  funext j
  obtain ⟨p, q, rfl⟩ : ∃ (p : Fin 4000) (q : Fin 32), j = ix2 p q := ⟨j 0, j 1, eq_ix2 j⟩
  show View.ld (Val := Elt Ideal) (e' := .f32) G rI (ix2 p q) + _ = G (ix2 (dn p) q) + stack _ _ (ix2 (dn p) q)
  rw [stack_dn]
  exact congrArg (· + _) (ld_rI (F := Ideal) (e := .f32) G p q)

theorem stack_parts (L : Tab 10000 32) : stack (fun i : S6000x32.Idx => L (ix2 (up (i 0)) (i 1))) (fun i : S4000x32.Idx => L (ix2 (dn (i 0)) (i 1))) = L :=
  ext_rows (fun p q => by rw [stack_up]) (fun p q => by rw [stack_dn])

theorem lat_stack : stack (latU (F := Ideal) G (stack u v) HU) (latI (F := Ideal) G (stack u v) HI) = lat1 G u v HU HI := by
  rw [latU_eq G u v HU HI, latI_eq G u v HU HI, stack_parts]

section Final

variable (hG : V c main_v1_1 = G) (hE : V c main_v0 = stack u v) (hU : V c main_arg4 = HU) (hI : V c main_arg5 = HI)

include hE hU hI in
theorem final_4 : (dat1 V c).arrAt 4 cfg1.N = hyp0 u v HU HI := by
  rw [whole_4, out4, blk1, blk2, blk3, hE, hU, hI, hypU_eq, hypI_eq]
  exact canon_stack (F := Ideal) (e := .f32) _ _

include hG hE hU hI

theorem final_5 : (dat1 V c).arrAt 5 cfg1.N = lat1 G u v HU HI := by
  rw [whole_5, out5, blk0, blk1, blk2, blk3, hG, hE, hU, hI]
  exact (canon_stack (F := Ideal) (e := .f32) _ _).trans (lat_stack G u v HU HI)

theorem final_6 : (dat1 V c).arrAt 6 cfg1.N = dig0 (lat1 G u v HU HI) := by
  rw [whole_6, out6, blk0, blk1, blk2, blk3, hG, hE, hU, hI]
  exact (canon_stack (F := Ideal) (e := .i8) _ _).trans (by rw [coarse_rows, lat_stack])

theorem final_7 : (dat1 V c).arrAt 7 cfg1.N = dig1 (lat1 G u v HU HI) := by
  rw [whole_7, out7, blk0, blk1, blk2, blk3, hG, hE, hU, hI]
  exact (canon_stack (F := Ideal) (e := .i8) _ _).trans (by rw [fine_rows, lat_stack])

theorem final_8 : (dat1 V c).arrAt 8 cfg1.N = aux (latU (F := Ideal) G (stack u v) HU) (latI (F := Ideal) G (stack u v) HI) := by
  rw [whole_8, out8, blk0, blk1, blk2, blk3, hG, hE, hU, hI]
  rfl

theorem final_9 : (dat1 V c).arrAt 9 cfg1.N = hyp1 (lat1 G u v HU HI) u v HU HI := by
  rw [whole_9, out9, blk0, blk1, blk2, blk3, hG, hE, hU, hI, wU_eq, wI_eq, hypU_eq, ld_dn, pay12, pay13]
  have eU := latU_eq G u v HU HI
  have eI := latI_eq G u v HU HI
  unfold latU at eU
  unfold latI at eI
  rw [hypU_eq, pay10] at eU
  rw [wI_eq, ld_dn, pay11] at eI
  rw [eU, eI]
  exact canon_stack (F := Ideal) (e := .f32) _ _

end Final

end Cert.Proof.Hyper1
-- ==== Proof.Products.lean ====
/-
The product of two tables of 8-bit words into 32-bit words: where the magnitudes of an element's products total at most
2^26 the element is the exact sum.
-/
module

public import proofs.«01_k».proof.Proof.Quant
public import Idealize.ShloMosaic.Lib.MatmulPlain
public import Idealize.ShloMosaic.Lib.IntMxu

@[expose] public section

noncomputable section

namespace Cert.Proof.Products

open Idealize.ShloMosaic
open Idealize.ShloMosaic.ValueIdx
open Cert.Proof.Quant

/-- The exact sum of an element's products. -/
def isum {M K N : ℕ} (W : IVec ⟨2, ![M, K]⟩ 8) (D : IVec ⟨2, ![K, N]⟩ 8) (r : Fin M) (c : Fin N) : ℤ :=
  ∑ k : Fin K, (W (ix2 r k)).toInt * (D (ix2 k c)).toInt

/-- The total of the magnitudes of an element's products. -/
def tot {M K N : ℕ} (W : IVec ⟨2, ![M, K]⟩ 8) (D : IVec ⟨2, ![K, N]⟩ 8) (r : Fin M) (c : Fin N) : ℕ :=
  ∑ k : Fin K, ((W (ix2 r k)).toInt * (D (ix2 k c)).toInt).natAbs

theorem lhs_at (M K N : ℕ) (r : Fin M) (c : Fin N) (k : Fin K) :
    (DotDims.plain M K N).lhsIdx (ix2 r c) ((DotDims.plainContr M K N).symm k) = ix2 r k := by
  have hk := contrEquiv1_symm_val _ K (DotDims.plain_contr_rank M K N) (DotDims.plain_contr_size M K N) k
  funext a; apply Fin.ext
  match a with
  | ⟨0, _⟩ => rfl
  | ⟨1, _⟩ => exact hk

theorem rhs_at (M K N : ℕ) (r : Fin M) (c : Fin N) (k : Fin K) :
    (DotDims.plain M K N).rhsIdx (ix2 r c) ((DotDims.plainContr M K N).symm k) = ix2 k c := by
  have hk := contrEquiv1_symm_val _ K (DotDims.plain_contr_rank M K N) (DotDims.plain_contr_size M K N) k
  funext a; apply Fin.ext
  match a with
  | ⟨0, _⟩ => exact hk
  | ⟨1, _⟩ => rfl

variable {M K N : ℕ} (W : IVec ⟨2, ![M, K]⟩ 8) (D : IVec ⟨2, ![K, N]⟩ 8) (r : Fin M) (c : Fin N)

theorem dot_eq : dotI8 (DotDims.plain M K N) W D (ix2 r c) = isum W D r c := by
  unfold dotI8 isum
  rw [← Equiv.sum_comp (DotDims.plainContr M K N).symm]
  exact Finset.sum_congr rfl fun k _ => by rw [lhs_at, rhs_at]

theorem absDot_eq : absDotI8 (DotDims.plain M K N) W D (ix2 r c) = tot W D r c := by
  unfold absDotI8 tot
  rw [← Equiv.sum_comp (DotDims.plainContr M K N).symm]
  exact Finset.sum_congr rfl fun k _ => by rw [lhs_at, rhs_at]

/-- The product into a zero accumulator, at an element within the bound. -/
theorem product (acc : IVec ⟨2, ![M, N]⟩ 32) (h0 : acc (ix2 r c) = 0) (h : tot W D r c ≤ 2 ^ 26) :
    (matmulI8 IntMxuNumerics.v5e (DotDims.plain M K N) W D acc (ix2 r c)).toInt = isum W D r c := by
  rw [matmulI8_toInt IntMxuNumerics.v5e _ _ _ _ _ h0 (by rw [absDot_eq]; exact h), dot_eq]

theorem abs_num (w : BitVec 8) : max (num w) (-(num w)) = ((w.toInt.natAbs : ℝ) : EReal) := by
  unfold num
  rw [← EReal.coe_neg, ← EReal.coe_strictMono.monotone.map_max]
  congr 1
  rw [Nat.cast_natAbs, Int.cast_abs]
  rfl

theorem coe_sum {ι : Type} (s : Finset ι) (f : ι → ℝ) : ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The total of the magnitudes, summed as extended reals. -/
theorem total_eq : ∑ k : Fin K, max (num (W (ix2 r k))) (-(num (W (ix2 r k)))) * max (num (D (ix2 k c))) (-(num (D (ix2 k c))))
    = (((tot W D r c : ℕ) : ℝ) : EReal) := by
  unfold tot
  rw [Nat.cast_sum, coe_sum]
  refine Finset.sum_congr rfl fun k _ => ?_
  rw [abs_num, abs_num, ← EReal.coe_mul, Int.natAbs_mul, Nat.cast_mul]

end Cert.Proof.Products
-- ==== Proof.Stream1.lean ====
/-
The second streaming kernel reads 5 blocks of 2000 rows of stored adjacency words. Its two result arrays, at the
elements where both integer products are within the bound: the second graph layer, and the final sum.
-/
module

public import proofs.«01_k».proof.Proof.Levels
public import proofs.«01_k».proof.Proof.Products

@[expose] public section

set_option maxRecDepth 16384

noncomputable section

namespace Cert.Proof.Stream1

open Idealize.ShloMosaic hiding ix1 ix2 eq_ix1 eq_ix2
open Idealize.ShloMosaic.TcCoe Idealize.SL.Sem
open Idealize.ShloMosaic.ValueIdx
open Idealize.ShloMosaic.Pipeline (Dat)
open Cert.KernelIdeal Cert.KernelIdeal.Gen Cert.Proof.HyperMath Cert.Proof.Quant Cert.Proof.Products

/-- The second graph layer from the stored words `W`, the two digit tables and the three rows kept beside them. -/
def layer {M : ℕ} (W : IVec ⟨2, ![M, 10000]⟩ 8) (D0 D1 : IVec S10000x32 8) (a : Tab 8 32) (r : Fin M) (c : Fin 32) : EReal :=
  ((((isum W D0 r c : ℤ) : ℝ) : EReal) * a (ix2 (0 : Fin 8) c) + (((isum W D1 r c : ℤ) : ℝ) : EReal) * a (ix2 (1 : Fin 8) c))
    + a (ix2 (2 : Fin 8) c)

/-- Both products of an element are within the bound. -/
def Within {M : ℕ} (W : IVec ⟨2, ![M, 10000]⟩ 8) (D0 D1 : IVec S10000x32 8) (r : Fin M) (c : Fin 32) : Prop :=
  tot W D0 r c ≤ 2 ^ 26 ∧ tot W D1 r c ≤ 2 ^ 26

theorem row_at (x : Vec Ideal S1x32 .f32) (p : Fin 2000) (c : Fin 32) :
    broadcastTo S2000x32 (shapeCast S1x32 x shapeCasts_S1x32_S1x32) broadcasts_S1x32_S2000x32 (ix2 p c) = x (ix2 (0 : Fin 1) c) := by
  rw [shapeCast_self]
  exact broadcastTo_1b_ab_apply x _ p c

theorem ld_0 (a : Tab 8 32) (c : Fin 32) : View.ld (Val := Elt Ideal) (e' := .f32) a r2_2 (ix2 (0 : Fin 1) c) = a (ix2 (0 : Fin 8) c) :=
  congrArg a (funext fun b => Fin.ext (match b with | ⟨0, _⟩ => rfl | ⟨1, _⟩ => show 0 + 1 * c.val = c.val from by omega))
theorem ld_1 (a : Tab 8 32) (c : Fin 32) : View.ld (Val := Elt Ideal) (e' := .f32) a r2_3 (ix2 (0 : Fin 1) c) = a (ix2 (1 : Fin 8) c) :=
  congrArg a (funext fun b => Fin.ext (match b with | ⟨0, _⟩ => rfl | ⟨1, _⟩ => show 0 + 1 * c.val = c.val from by omega))
theorem ld_2 (a : Tab 8 32) (c : Fin 32) : View.ld (Val := Elt Ideal) (e' := .f32) a r2_4 (ix2 (0 : Fin 1) c) = a (ix2 (2 : Fin 8) c) :=
  congrArg a (funext fun b => Fin.ext (match b with | ⟨0, _⟩ => rfl | ⟨1, _⟩ => show 0 + 1 * c.val = c.val from by omega))

/-- The second graph layer of one block. -/
theorem pay2_at (W : IVec S2000x10000 8) (D0 D1 : IVec S10000x32 8) (a : Tab 8 32) (p : Fin 2000) (c : Fin 32) (h : Within W D0 D1 p c) :
    k2_pay2 (F := Ideal) W D0 W D1 (View.ld a r2_2) (View.ld a r2_3) (View.ld a r2_4) (ix2 p c) = layer W D0 D1 a p c := by
  have e : k2_pay2 (F := Ideal) W D0 W D1 (View.ld a r2_2) (View.ld a r2_3) (View.ld a r2_4) (ix2 p c)
      = (((((matmulI8 IntMxuNumerics.v5e (DotDims.plain 2000 10000 32) (shapeCast S2000x10000 W shapeCasts_S2000x10000_S2000x10000) (shapeCast S10000x32 D0 shapeCasts_S10000x32_S10000x32) (constantI S2000x32 32 0#32) (ix2 p c)).toInt : ℤ) : ℝ) : EReal)
          * broadcastTo S2000x32 (shapeCast S1x32 (View.ld (Val := Elt Ideal) (e' := .f32) a r2_2) shapeCasts_S1x32_S1x32) broadcasts_S1x32_S2000x32 (ix2 p c)
        + ((((matmulI8 IntMxuNumerics.v5e (DotDims.plain 2000 10000 32) (shapeCast S2000x10000 W shapeCasts_S2000x10000_S2000x10000) (shapeCast S10000x32 D1 shapeCasts_S10000x32_S10000x32) (constantI S2000x32 32 0#32) (ix2 p c)).toInt : ℤ) : ℝ) : EReal)
          * broadcastTo S2000x32 (shapeCast S1x32 (View.ld (Val := Elt Ideal) (e' := .f32) a r2_3) shapeCasts_S1x32_S1x32) broadcasts_S1x32_S2000x32 (ix2 p c))
        + broadcastTo S2000x32 (shapeCast S1x32 (View.ld (Val := Elt Ideal) (e' := .f32) a r2_4) shapeCasts_S1x32_S1x32) broadcasts_S1x32_S2000x32 (ix2 p c) := rfl
  rw [e, shapeCast_self, shapeCast_self, shapeCast_self, row_at, row_at, row_at, ld_0, ld_1, ld_2,
    product W D0 p c _ rfl h.1, product W D1 p c _ rfl h.2]
  rfl

theorem pay1_at (W : IVec S2000x10000 8) (D0 D1 : IVec S10000x32 8) (a : Tab 8 32) (E L H : Vec Ideal S2000x32 .f32) (p : Fin 2000) (c : Fin 32)
    (h : Within W D0 D1 p c) :
    k2_pay1 (F := Ideal) (k2_pay3 W D0 W D1 (View.ld a r2_2) (View.ld a r2_3) (View.ld a r2_4) E L) (k2_pay4 H) (ix2 p c)
      = ((E (ix2 p c) + L (ix2 p c)) + layer W D0 D1 a p c) + H (ix2 p c) := by
  rw [← pay2_at W D0 D1 a p c h]
  unfold k2_pay1 k2_pay3 k2_pay4
  simp only [shapeCast_self]
  rfl

variable (V : (c : Dev nD) → (b : Ref sig .tc) → Buf (Elt Ideal) ((c : Thread nD τ).loc b)) (c : Dev nD)

theorem hz : (![0, 0] : Fin 2 → ℕ) = fun _ => 0 := by funext a; fin_cases a <;> rfl

theorem offs_0 : ∀ t : Fin cfg2.N, win2_0.index t 0 * win2_0.size 0 = t.val * 2000 ∧ win2_0.index t 1 * win2_0.size 1 = 0 := by decide +kernel
theorem offs_1 : ∀ t : Fin cfg2.N, win2_1.index t 0 * win2_1.size 0 = 0 ∧ win2_1.index t 1 * win2_1.size 1 = 0 := by decide +kernel
theorem offs_2 : ∀ t : Fin cfg2.N, win2_2.index t 0 * win2_2.size 0 = 0 ∧ win2_2.index t 1 * win2_2.size 1 = 0 := by decide +kernel
theorem offs_3 : ∀ t : Fin cfg2.N, win2_3.index t 0 * win2_3.size 0 = 0 ∧ win2_3.index t 1 * win2_3.size 1 = 0 := by decide +kernel
theorem offs_4 : ∀ t : Fin cfg2.N, win2_4.index t 0 * win2_4.size 0 = t.val * 2000 ∧ win2_4.index t 1 * win2_4.size 1 = 0 := by decide +kernel
theorem offs_5 : ∀ t : Fin cfg2.N, win2_5.index t 0 * win2_5.size 0 = t.val * 2000 ∧ win2_5.index t 1 * win2_5.size 1 = 0 := by decide +kernel
theorem offs_6 : ∀ t : Fin cfg2.N, win2_6.index t 0 * win2_6.size 0 = t.val * 2000 ∧ win2_6.index t 1 * win2_6.size 1 = 0 := by decide +kernel
theorem offs_7 : ∀ t : Fin cfg2.N, win2_7.index t 0 * win2_7.size 0 = t.val * 2000 ∧ win2_7.index t 1 * win2_7.size 1 = 0 := by decide +kernel
theorem offs_8 : ∀ t : Fin cfg2.N, win2_8.index t 0 * win2_8.size 0 = t.val * 2000 ∧ win2_8.index t 1 * win2_8.size 1 = 0 := by decide +kernel

theorem row_lt (t : Fin cfg2.N) (p : Fin 2000) : t.val * 2000 + p.val < 10000 := by
  have h : t.val < 5 := t.isLt
  omega

/-- Row `p` of block `t` in the whole array. -/
def row (t : Fin cfg2.N) (p : Fin 2000) : Fin 10000 := ⟨t.val * 2000 + p.val, row_lt t p⟩

theorem emb_0 (t : Fin cfg2.N) (p : Fin 2000) (k : Fin 10000) : (win2_0.rect t).emb (ix2 p k) = ix2 (row t p) k :=
  funext fun a => Fin.ext (by
    match a with
    | ⟨0, _⟩ => exact (Pipeline.Window.rect_emb_val win2_0 t (ix2 p k) 0).trans (by rw [(offs_0 t).1]; rfl)
    | ⟨1, _⟩ => exact (Pipeline.Window.rect_emb_val win2_0 t (ix2 p k) 1).trans (by rw [(offs_0 t).2]; exact Nat.zero_add _))

theorem emb_1 (t : Fin cfg2.N) (p : Fin 10000) (k : Fin 32) : (win2_1.rect t).emb (ix2 p k) = ix2 (p) k :=
  funext fun a => Fin.ext (by
    match a with
    | ⟨0, _⟩ => exact (Pipeline.Window.rect_emb_val win2_1 t (ix2 p k) 0).trans (by rw [(offs_1 t).1]; exact Nat.zero_add _)
    | ⟨1, _⟩ => exact (Pipeline.Window.rect_emb_val win2_1 t (ix2 p k) 1).trans (by rw [(offs_1 t).2]; exact Nat.zero_add _))

theorem emb_2 (t : Fin cfg2.N) (p : Fin 10000) (k : Fin 32) : (win2_2.rect t).emb (ix2 p k) = ix2 (p) k :=
  funext fun a => Fin.ext (by
    match a with
    | ⟨0, _⟩ => exact (Pipeline.Window.rect_emb_val win2_2 t (ix2 p k) 0).trans (by rw [(offs_2 t).1]; exact Nat.zero_add _)
    | ⟨1, _⟩ => exact (Pipeline.Window.rect_emb_val win2_2 t (ix2 p k) 1).trans (by rw [(offs_2 t).2]; exact Nat.zero_add _))

theorem emb_3 (t : Fin cfg2.N) (p : Fin 8) (k : Fin 32) : (win2_3.rect t).emb (ix2 p k) = ix2 (p) k :=
  funext fun a => Fin.ext (by
    match a with
    | ⟨0, _⟩ => exact (Pipeline.Window.rect_emb_val win2_3 t (ix2 p k) 0).trans (by rw [(offs_3 t).1]; exact Nat.zero_add _)
    | ⟨1, _⟩ => exact (Pipeline.Window.rect_emb_val win2_3 t (ix2 p k) 1).trans (by rw [(offs_3 t).2]; exact Nat.zero_add _))

theorem emb_4 (t : Fin cfg2.N) (p : Fin 2000) (k : Fin 32) : (win2_4.rect t).emb (ix2 p k) = ix2 (row t p) k :=
  funext fun a => Fin.ext (by
    match a with
    | ⟨0, _⟩ => exact (Pipeline.Window.rect_emb_val win2_4 t (ix2 p k) 0).trans (by rw [(offs_4 t).1]; rfl)
    | ⟨1, _⟩ => exact (Pipeline.Window.rect_emb_val win2_4 t (ix2 p k) 1).trans (by rw [(offs_4 t).2]; exact Nat.zero_add _))

theorem emb_5 (t : Fin cfg2.N) (p : Fin 2000) (k : Fin 32) : (win2_5.rect t).emb (ix2 p k) = ix2 (row t p) k :=
  funext fun a => Fin.ext (by
    match a with
    | ⟨0, _⟩ => exact (Pipeline.Window.rect_emb_val win2_5 t (ix2 p k) 0).trans (by rw [(offs_5 t).1]; rfl)
    | ⟨1, _⟩ => exact (Pipeline.Window.rect_emb_val win2_5 t (ix2 p k) 1).trans (by rw [(offs_5 t).2]; exact Nat.zero_add _))

theorem emb_6 (t : Fin cfg2.N) (p : Fin 2000) (k : Fin 32) : (win2_6.rect t).emb (ix2 p k) = ix2 (row t p) k :=
  funext fun a => Fin.ext (by
    match a with
    | ⟨0, _⟩ => exact (Pipeline.Window.rect_emb_val win2_6 t (ix2 p k) 0).trans (by rw [(offs_6 t).1]; rfl)
    | ⟨1, _⟩ => exact (Pipeline.Window.rect_emb_val win2_6 t (ix2 p k) 1).trans (by rw [(offs_6 t).2]; exact Nat.zero_add _))

theorem emb_7 (t : Fin cfg2.N) (p : Fin 2000) (k : Fin 32) : (win2_7.rect t).emb (ix2 p k) = ix2 (row t p) k :=
  funext fun a => Fin.ext (by
    match a with
    | ⟨0, _⟩ => exact (Pipeline.Window.rect_emb_val win2_7 t (ix2 p k) 0).trans (by rw [(offs_7 t).1]; rfl)
    | ⟨1, _⟩ => exact (Pipeline.Window.rect_emb_val win2_7 t (ix2 p k) 1).trans (by rw [(offs_7 t).2]; exact Nat.zero_add _))

theorem emb_8 (t : Fin cfg2.N) (p : Fin 2000) (k : Fin 32) : (win2_8.rect t).emb (ix2 p k) = ix2 (row t p) k :=
  funext fun a => Fin.ext (by
    match a with
    | ⟨0, _⟩ => exact (Pipeline.Window.rect_emb_val win2_8 t (ix2 p k) 0).trans (by rw [(offs_8 t).1]; rfl)
    | ⟨1, _⟩ => exact (Pipeline.Window.rect_emb_val win2_8 t (ix2 p k) 1).trans (by rw [(offs_8 t).2]; exact Nat.zero_add _))

theorem blk0_at (t : Fin cfg2.N) (p : Fin 2000) (k : Fin 10000) : iblk2 V c 0 t (ix2 p k) = (V c main_call0_v3_1 : IVec S10000x10000 8) (ix2 (row t p) k) :=
  congrArg (V c main_call0_v3_1 : IVec S10000x10000 8) (emb_0 t p k)

theorem blk4_at (t : Fin cfg2.N) (p : Fin 2000) (k : Fin 32) : iblk2 V c 4 t (ix2 p k) = (V c main_v0 : Tab 10000 32) (ix2 (row t p) k) :=
  congrArg (V c main_v0 : Tab 10000 32) (emb_4 t p k)

theorem blk5_at (t : Fin cfg2.N) (p : Fin 2000) (k : Fin 32) : iblk2 V c 5 t (ix2 p k) = (V c main_call0_v4_1 : Tab 10000 32) (ix2 (row t p) k) :=
  congrArg (V c main_call0_v4_1 : Tab 10000 32) (emb_5 t p k)

theorem blk6_at (t : Fin cfg2.N) (p : Fin 2000) (k : Fin 32) : iblk2 V c 6 t (ix2 p k) = (V c main_v1_4 : Tab 10000 32) (ix2 (row t p) k) :=
  congrArg (V c main_v1_4 : Tab 10000 32) (emb_6 t p k)

theorem blk1 (t : Fin cfg2.N) : iblk2 V c 1 t = (V c main_call0_v4_2 : IVec S10000x32 8) := by
  funext j
  obtain ⟨p, k, rfl⟩ : ∃ (p : Fin 10000) (k : Fin 32), j = ix2 p k := ⟨j 0, j 1, eq_ix2 j⟩
  exact congrArg (V c main_call0_v4_2 : IVec S10000x32 8) (emb_1 t p k)

theorem blk2 (t : Fin cfg2.N) : iblk2 V c 2 t = (V c main_call0_v4_3 : IVec S10000x32 8) := by
  funext j
  obtain ⟨p, k, rfl⟩ : ∃ (p : Fin 10000) (k : Fin 32), j = ix2 p k := ⟨j 0, j 1, eq_ix2 j⟩
  exact congrArg (V c main_call0_v4_3 : IVec S10000x32 8) (emb_2 t p k)

theorem blk3 (t : Fin cfg2.N) : iblk2 V c 3 t = (V c main_call0_v4_4 : Tab 8 32) := by
  funext j
  obtain ⟨p, k, rfl⟩ : ∃ (p : Fin 8) (k : Fin 32), j = ix2 p k := ⟨j 0, j 1, eq_ix2 j⟩
  exact congrArg (V c main_call0_v4_4 : Tab 8 32) (emb_3 t p k)

theorem sizes_7 : ∀ t : Fin cfg2.N, win2_7.xsize (grid2.coords t) 0 = 2000 ∧ win2_7.xsize (grid2.coords t) 1 = 32 := by decide +kernel
theorem sizes_8 : ∀ t : Fin cfg2.N, win2_8.xsize (grid2.coords t) 0 = 2000 ∧ win2_8.xsize (grid2.coords t) 1 = 32 := by decide +kernel

/-- The block a row lies in. -/
def blockOf (r : Fin 10000) : Fin cfg2.N := ⟨r.val / 2000, by have := r.isLt; show r.val / 2000 < 5; omega⟩

theorem cover_7 (i : S10000x32.Idx) : ∃ t : Fin cfg2.N, (cfg2.win 7).flush t = true ∧ i ∈ ((cfg2.win 7).blk t).view.set := by
  refine ⟨blockOf (i 0), flush2_7 _, ?_⟩
  show i ∈ ((View.whole main_v1_2).slice (win2_7.rect (blockOf (i 0)))).set
  erw [View.set_slice_whole]
  refine (Pipeline.Window.mem_rect_iff win2_7 (blockOf (i 0)) i (by rfl)).mpr fun a => ?_
  have h0 : (i 0).val < 10000 := (i 0).isLt
  have h1 : (i 1).val < 32 := (i 1).isLt
  match a with
  | ⟨0, _⟩ =>
    show win2_7.index (blockOf (i 0)) 0 * win2_7.size 0 ≤ (i 0).val ∧ (i 0).val < win2_7.index (blockOf (i 0)) 0 * win2_7.size 0 + win2_7.xsize (grid2.coords (blockOf (i 0))) 0
    rw [(offs_7 _).1, (sizes_7 _).1]
    show (i 0).val / 2000 * 2000 ≤ (i 0).val ∧ (i 0).val < (i 0).val / 2000 * 2000 + 2000
    omega
  | ⟨1, _⟩ =>
    show win2_7.index (blockOf (i 0)) 1 * win2_7.size 1 ≤ (i 1).val ∧ (i 1).val < win2_7.index (blockOf (i 0)) 1 * win2_7.size 1 + win2_7.xsize (grid2.coords (blockOf (i 0))) 1
    rw [(offs_7 _).2, (sizes_7 _).2]
    omega

theorem cover_8 (i : S10000x32.Idx) : ∃ t : Fin cfg2.N, (cfg2.win 8).flush t = true ∧ i ∈ ((cfg2.win 8).blk t).view.set := by
  refine ⟨blockOf (i 0), flush2_8 _, ?_⟩
  show i ∈ ((View.whole main_v1_0).slice (win2_8.rect (blockOf (i 0)))).set
  erw [View.set_slice_whole]
  refine (Pipeline.Window.mem_rect_iff win2_8 (blockOf (i 0)) i (by rfl)).mpr fun a => ?_
  have h0 : (i 0).val < 10000 := (i 0).isLt
  have h1 : (i 1).val < 32 := (i 1).isLt
  match a with
  | ⟨0, _⟩ =>
    show win2_8.index (blockOf (i 0)) 0 * win2_8.size 0 ≤ (i 0).val ∧ (i 0).val < win2_8.index (blockOf (i 0)) 0 * win2_8.size 0 + win2_8.xsize (grid2.coords (blockOf (i 0))) 0
    rw [(offs_8 _).1, (sizes_8 _).1]
    show (i 0).val / 2000 * 2000 ≤ (i 0).val ∧ (i 0).val < (i 0).val / 2000 * 2000 + 2000
    omega
  | ⟨1, _⟩ =>
    show win2_8.index (blockOf (i 0)) 1 * win2_8.size 1 ≤ (i 1).val ∧ (i 1).val < win2_8.index (blockOf (i 0)) 1 * win2_8.size 1 + win2_8.xsize (grid2.coords (blockOf (i 0))) 1
    rw [(offs_8 _).2, (sizes_8 _).2]
    omega

theorem isum_blk (D : IVec S10000x32 8) (t : Fin cfg2.N) (p : Fin 2000) (q : Fin 32) :
    isum (M := 2000) (K := 10000) (N := 32) (iblk2 V c 0 t) D p q = isum (M := 10000) (K := 10000) (N := 32) (V c main_call0_v3_1 : IVec S10000x10000 8) D (row t p) q :=
  Finset.sum_congr rfl fun k _ => by rw [blk0_at]

theorem tot_blk (D : IVec S10000x32 8) (t : Fin cfg2.N) (p : Fin 2000) (q : Fin 32) :
    tot (M := 2000) (K := 10000) (N := 32) (iblk2 V c 0 t) D p q = tot (M := 10000) (K := 10000) (N := 32) (V c main_call0_v3_1 : IVec S10000x10000 8) D (row t p) q :=
  Finset.sum_congr rfl fun k _ => by rw [blk0_at]

variable (W : IVec S10000x10000 8) (D0 D1 : IVec S10000x32 8) (a : Tab 8 32) (E L H : Tab 10000 32)
  (hW : V c main_call0_v3_1 = W) (h0 : V c main_call0_v4_2 = D0) (h1 : V c main_call0_v4_3 = D1) (ha : V c main_call0_v4_4 = a)

include hW in
theorem layer_blk (t : Fin cfg2.N) (p : Fin 2000) (q : Fin 32) :
    layer (M := 2000) (iblk2 V c 0 t) D0 D1 a p q = layer (M := 10000) W D0 D1 a (row t p) q := by
  unfold layer
  rw [isum_blk, isum_blk, hW]

include hW in
theorem within_blk (t : Fin cfg2.N) (p : Fin 2000) (q : Fin 32) (h : Within (M := 10000) W D0 D1 (row t p) q) :
    Within (M := 2000) (iblk2 V c 0 t) D0 D1 p q := by
  unfold Within
  rw [tot_blk, tot_blk, hW]
  exact h

include hW h0 h1 ha in
/-- The second graph layer, at the elements within the bound. -/
theorem final_7 (i : S10000x32.Idx) (h : Within (M := 10000) W D0 D1 (i 0) (i 1)) :
    (dat2 V c).arrAt 7 cfg2.N i = layer (M := 10000) W D0 D1 a (i 0) (i 1) := by
  refine (dat2 V c).arrAt_forall_of_cover 7 (fun i v => Within (M := 10000) W D0 D1 (i 0) (i 1) → v = layer (M := 10000) W D0 D1 a (i 0) (i 1))
    (fun t _ j => ?_) cover_7 i h
  obtain ⟨p, q, rfl⟩ : ∃ (p : Fin 2000) (q : Fin 32), j = ix2 p q := ⟨j 0, j 1, eq_ix2 j⟩
  show Within (M := 10000) W D0 D1 ((win2_7.rect t).emb (ix2 p q) 0) ((win2_7.rect t).emb (ix2 p q) 1)
    → (cfg2.win 7).cut (grid2.coords t) ((dat2 V c).after 7 t) (ix2 p q) = layer (M := 10000) W D0 D1 a ((win2_7.rect t).emb (ix2 p q) 0) ((win2_7.rect t).emb (ix2 p q) 1)
  rw [emb_7, after2_7]
  intro hw
  unfold out2_7
  rw [View.canon_unit_zero hz, View.ld_unit_zero hz, View.ld_unit_zero hz, View.ld_unit_zero hz, blk1, blk2, blk3, h0, h1, ha]
  exact (pay2_at (iblk2 V c 0 t) D0 D1 a p q (within_blk V c W D0 D1 hW t p q hw)).trans (layer_blk V c W D0 D1 a hW t p q)

variable (hE : V c main_v0 = E) (hL : V c main_call0_v4_1 = L) (hH : V c main_v1_4 = H)

include hW h0 h1 ha hE hL hH in
/-- The final sum, at the elements within the bound. -/
theorem final_8 (i : S10000x32.Idx) (h : Within (M := 10000) W D0 D1 (i 0) (i 1)) :
    (dat2 V c).arrAt 8 cfg2.N i = ((E i + L i) + layer (M := 10000) W D0 D1 a (i 0) (i 1)) + H i := by
  refine (dat2 V c).arrAt_forall_of_cover 8 (fun i v => Within (M := 10000) W D0 D1 (i 0) (i 1) → v = ((E i + L i) + layer (M := 10000) W D0 D1 a (i 0) (i 1)) + H i)
    (fun t _ j => ?_) cover_8 i h
  obtain ⟨p, q, rfl⟩ : ∃ (p : Fin 2000) (q : Fin 32), j = ix2 p q := ⟨j 0, j 1, eq_ix2 j⟩
  show Within (M := 10000) W D0 D1 ((win2_8.rect t).emb (ix2 p q) 0) ((win2_8.rect t).emb (ix2 p q) 1)
    → (cfg2.win 8).cut (grid2.coords t) ((dat2 V c).after 8 t) (ix2 p q)
      = ((E ((win2_8.rect t).emb (ix2 p q)) + L ((win2_8.rect t).emb (ix2 p q))) + layer (M := 10000) W D0 D1 a ((win2_8.rect t).emb (ix2 p q) 0) ((win2_8.rect t).emb (ix2 p q) 1)) + H ((win2_8.rect t).emb (ix2 p q))
  rw [emb_8, after2_8]
  intro hw
  unfold out2_8
  rw [View.canon_unit_zero hz, View.ld_unit_zero hz, View.ld_unit_zero hz, View.ld_unit_zero hz, View.ld_unit_zero hz, View.ld_unit_zero hz,
    View.ld_unit_zero hz, blk1, blk2, blk3, h0, h1, ha]
  refine (pay1_at (iblk2 V c 0 t) D0 D1 a _ _ _ p q (within_blk V c W D0 D1 hW t p q hw)).trans ?_
  rw [layer_blk V c W D0 D1 a hW, blk4_at, blk5_at, blk6_at, hE, hL, hH]
  rfl

end Cert.Proof.Stream1
-- ==== Proof.RefLayer.lean ====
/-
What the reference computes, layer by layer: its first product, the two hypergraph layers on the two pieces of the
rows, and the layer-1 sums.
-/
module

public import proofs.«01_k».proof.Proof.Levels
public import proofs.«01_k».proof.Proof.Gen.ReferenceIdeal.Read

@[expose] public section

noncomputable section

namespace Cert.Proof.Ref

open Idealize.ShloMosaic hiding ix1 ix2 eq_ix2
open Idealize.ShloMosaic.ValueIdx
open Cert.ReferenceIdeal Cert.ReferenceIdeal.Gen Cert.ReferenceIdeal.Read
open Cert.Proof.HyperMath Cert.Proof.Stack Cert.Proof.Columns Cert.Proof.Quant Cert.Proof.Levels

variable (x0 : Tab 10000 10000) (x2 : Tab 6000 32) (x3 : Tab 4000 32) (x4 x5 : Tab 32 128)

theorem v0_eq : val_main_v0 (F := Ideal) x2 x3 = stack x2 x3 := concat_stack _ _ _

theorem v1_eq : val_main_v1 (F := Ideal) x2 x4 = wts x2 x4 := by
  funext i
  obtain ⟨p, c, rfl⟩ : ∃ (p : Fin 6000) (c : Fin 128), i = ix2 p c := ⟨i 0, i 1, eq_ix2 i⟩
  rw [val_main_v1_apply]
  unfold wts
  refine Finset.sum_congr rfl fun k _ => ?_
  rw [show lidx_main_v1 (ix2 p c) k = ix2 p k from eq_ix2 _, show ridx_main_v1 (ix2 p c) k = ix2 k c from eq_ix2 _]

theorem v2_eq : val_main_v2 (F := Ideal) x3 x5 = wts x3 x5 := by
  funext i
  obtain ⟨p, c, rfl⟩ : ∃ (p : Fin 4000) (c : Fin 128), i = ix2 p c := ⟨i 0, i 1, eq_ix2 i⟩
  rw [val_main_v2_apply]
  unfold wts
  refine Finset.sum_congr rfl fun k _ => ?_
  rw [show lidx_main_v2 (ix2 p c) k = ix2 p k from eq_ix2 _, show ridx_main_v2 (ix2 p c) k = ix2 k c from eq_ix2 _]

/-- The integer table of the adjacency, rounded, before it is clipped. -/
theorem v5_eq (r k : Fin 10000) : val_main_v5 (F := Ideal) x0 (ix2 r k) = R (x0 (ix2 r k) * ((255 : ℝ) : EReal)) := by
  rw [val_main_v5_apply, val_main_v4_apply, val_main_v3_apply, val_main_cst_apply, ← Consts.c255]
  rfl

/-- The first product. -/
theorem v8_eq (r : Fin 10000) (c : Fin 32) : val_main_v8 (F := Ideal) x0 x2 x3 (ix2 r c)
    = ∑ k : Fin 10000, (R (x0 (ix2 r k) * ((255 : ℝ) : EReal)) * Ideal.ofBits .f32 0x3B808081#32) * stack x2 x3 (ix2 k c) := by
  rw [val_main_v8_apply]
  refine Finset.sum_congr rfl fun k _ => ?_
  rw [show lidx_main_v8 (ix2 r c) k = ix2 r k from eq_ix2 _, show ridx_main_v8 (ix2 r c) k = ix2 k c from eq_ix2 _,
    v0_eq, val_main_v7_apply, v5_eq, val_main_v6_apply, val_main_cst_0_apply]
  rfl

/-- The users' rows of the first hypergraph layer. -/
theorem v12_eq : val_main_v12 (F := Ideal) x2 x3 x4 = hyp (wts x2 x4) x2 := by
  funext i
  obtain ⟨p, c, rfl⟩ : ∃ (p : Fin 6000) (c : Fin 32), i = ix2 p c := ⟨i 0, i 1, eq_ix2 i⟩
  rw [val_main_v12_apply]
  unfold hyp
  refine Finset.sum_congr rfl fun k _ => ?_
  rw [show lidx_main_v12 (ix2 p c) k = ix2 p k from eq_ix2 _, show ridx_main_v12 (ix2 p c) k = ix2 k c from eq_ix2 _, val_main_v11_apply, v1_eq]
  refine congrArg (wts x2 x4 (ix2 p k) * ·) (Finset.sum_congr rfl fun r _ => ?_)
  rw [show lidx_main_v11 (ix2 k c) r = ix2 k r from eq_ix2 _, show ridx_main_v11 (ix2 k c) r = ix2 r c from eq_ix2 _,
    val_main_v9_apply, val_main_v10_apply, v0_eq, v1_eq, show idx_main_v9 (ix2 k r) = ix2 r k from eq_ix2 _,
    show idx_main_v10 (ix2 r c) = ix2 (up r) c from (eq_ix2 _).trans (by congr 1), stack_up]

/-- The items' rows of the first hypergraph layer. -/
theorem v16_eq : val_main_v16 (F := Ideal) x2 x3 x5 = hyp (wts x3 x5) x3 := by
  funext i
  obtain ⟨p, c, rfl⟩ : ∃ (p : Fin 4000) (c : Fin 32), i = ix2 p c := ⟨i 0, i 1, eq_ix2 i⟩
  rw [val_main_v16_apply]
  unfold hyp
  refine Finset.sum_congr rfl fun k _ => ?_
  rw [show lidx_main_v16 (ix2 p c) k = ix2 p k from eq_ix2 _, show ridx_main_v16 (ix2 p c) k = ix2 k c from eq_ix2 _, val_main_v15_apply, v2_eq]
  refine congrArg (wts x3 x5 (ix2 p k) * ·) (Finset.sum_congr rfl fun r _ => ?_)
  rw [show lidx_main_v15 (ix2 k c) r = ix2 k r from eq_ix2 _, show ridx_main_v15 (ix2 k c) r = ix2 r c from eq_ix2 _,
    val_main_v13_apply, val_main_v14_apply, v0_eq, v2_eq, show idx_main_v13 (ix2 k r) = ix2 r k from eq_ix2 _,
    show idx_main_v14 (ix2 r c) = ix2 (dn r) c from eq_ix2 _, stack_dn]

/-- The first hypergraph layer. -/
theorem v17_eq : val_main_v17 (F := Ideal) x2 x3 x4 x5 = stack (hyp (wts x2 x4) x2) (hyp (wts x3 x5) x3) := by
  rw [← v12_eq x2 x3 x4, ← v16_eq x2 x3 x5]
  exact concat_stack _ _ _

/-- The users' rows of the second hypergraph layer. -/
theorem v54_eq : val_main_v54 (F := Ideal) x0 x2 x3 x4 x5
    = hyp (wts x2 x4) fun i => val_main_v18 (F := Ideal) x0 x2 x3 x4 x5 (ix2 (up (i 0)) (i 1)) := by
  funext i
  obtain ⟨p, c, rfl⟩ : ∃ (p : Fin 6000) (c : Fin 32), i = ix2 p c := ⟨i 0, i 1, eq_ix2 i⟩
  rw [val_main_v54_apply]
  unfold hyp
  refine Finset.sum_congr rfl fun k _ => ?_
  rw [show lidx_main_v54 (ix2 p c) k = ix2 p k from eq_ix2 _, show ridx_main_v54 (ix2 p c) k = ix2 k c from eq_ix2 _, val_main_v53_apply, v1_eq]
  refine congrArg (wts x2 x4 (ix2 p k) * ·) (Finset.sum_congr rfl fun r _ => ?_)
  rw [show lidx_main_v53 (ix2 k c) r = ix2 k r from eq_ix2 _, show ridx_main_v53 (ix2 k c) r = ix2 r c from eq_ix2 _,
    val_main_v51_apply, val_main_v52_apply, v1_eq, show idx_main_v51 (ix2 k r) = ix2 r k from eq_ix2 _,
    show idx_main_v52 (ix2 r c) = ix2 (up r) c from (eq_ix2 _).trans (by congr 1)]

/-- The items' rows of the second hypergraph layer. -/
theorem v58_eq : val_main_v58 (F := Ideal) x0 x2 x3 x4 x5
    = hyp (wts x3 x5) fun i => val_main_v18 (F := Ideal) x0 x2 x3 x4 x5 (ix2 (dn (i 0)) (i 1)) := by
  funext i
  obtain ⟨p, c, rfl⟩ : ∃ (p : Fin 4000) (c : Fin 32), i = ix2 p c := ⟨i 0, i 1, eq_ix2 i⟩
  rw [val_main_v58_apply]
  unfold hyp
  refine Finset.sum_congr rfl fun k _ => ?_
  rw [show lidx_main_v58 (ix2 p c) k = ix2 p k from eq_ix2 _, show ridx_main_v58 (ix2 p c) k = ix2 k c from eq_ix2 _, val_main_v57_apply, v2_eq]
  refine congrArg (wts x3 x5 (ix2 p k) * ·) (Finset.sum_congr rfl fun r _ => ?_)
  rw [show lidx_main_v57 (ix2 k c) r = ix2 k r from eq_ix2 _, show ridx_main_v57 (ix2 k c) r = ix2 r c from eq_ix2 _,
    val_main_v55_apply, val_main_v56_apply, v2_eq, show idx_main_v55 (ix2 k r) = ix2 r k from eq_ix2 _,
    show idx_main_v56 (ix2 r c) = ix2 (dn r) c from eq_ix2 _]

/-- The second hypergraph layer. -/
theorem v59_eq : val_main_v59 (F := Ideal) x0 x2 x3 x4 x5
    = stack (hyp (wts x2 x4) fun i => val_main_v18 (F := Ideal) x0 x2 x3 x4 x5 (ix2 (up (i 0)) (i 1)))
        (hyp (wts x3 x5) fun i => val_main_v18 (F := Ideal) x0 x2 x3 x4 x5 (ix2 (dn (i 0)) (i 1))) := by
  rw [← v54_eq, ← v58_eq]
  exact concat_stack _ _ _

end Cert.Proof.Ref

end
-- ==== Proof.RefQuant.lean ====
/-
What the reference computes with its quantiser: the levels, the step of a column, the two digits, the integer table
of the adjacency, the second product and the final sum.
-/
module

public import proofs.«01_k».proof.Proof.RefLayer

@[expose] public section

noncomputable section

namespace Cert.Proof.Ref

open Idealize.ShloMosaic hiding ix1 ix2 eq_ix1 eq_ix2
open Idealize.ShloMosaic.ValueIdx
open Cert.ReferenceIdeal Cert.ReferenceIdeal.Gen Cert.ReferenceIdeal.Read
open Cert.Proof.HyperMath Cert.Proof.Stack Cert.Proof.Columns Cert.Proof.Quant Cert.Proof.Levels

variable (x0 : Tab 10000 10000) (x2 : Tab 6000 32) (x3 : Tab 4000 32) (x4 x5 : Tab 32 128)

/-- The reference's layer-1 sums. -/
abbrev lat : Tab 10000 32 := val_main_v18 (F := Ideal) x0 x2 x3 x4 x5

theorem v18_eq (i : S10000x32.Idx) : lat x0 x2 x3 x4 x5 i
    = val_main_v8 (F := Ideal) x0 x2 x3 i + val_main_v17 (F := Ideal) x2 x3 x4 x5 i := rfl

/-- The adjacency's integers, clipped and shifted. -/
theorem v21_eq (r k : Fin 10000) : val_main_v21 (F := Ideal) x0 (ix2 r k)
    = min ((255 : ℝ) : EReal) (max ((0 : ℝ) : EReal) (R (x0 (ix2 r k) * ((255 : ℝ) : EReal)))) - ((128 : ℝ) : EReal) := by
  rw [val_main_v21_apply, val_main_v19_apply, val_main_v20_apply, val_main_cst_3_apply, val_main_call1_v4_apply, val_main_call1_v3_apply,
    val_main_cst_2_apply, val_main_call1_v2_apply, val_main_call1_v1_apply, val_main_call1_v0_apply, val_main_cst_1_apply, v5_eq]
  show min (Ideal.ofBits .f32 0x437F0000#32) (max (Ideal.ofBits .f32 0x00000000#32) _) - Ideal.ofBits .f32 0x43000000#32 = _
  rw [Consts.c255, Consts.c0, Consts.c128]

theorem v23_eq (k : Fin 10000) (c : Fin 32) : val_main_v23 (F := Ideal) x0 x2 x3 x4 x5 (ix2 k c) = lev (lat x0 x2 x3 x4 x5) k c := by
  rw [val_main_v23_apply, val_main_v22_apply, val_main_cst_4_apply]
  show Ideal.div _ (Ideal.ofBits .f32 0x437F0000#32) = _
  rw [Consts.c255]
  rfl

/-- A column's largest magnitude. -/
theorem v25_eq (c : Fin 32) : val_main_v25 (F := Ideal) x0 x2 x3 x4 x5 (ix1 c)
    = Finset.univ.fold max ⊥ fun k => max (lev (lat x0 x2 x3 x4 x5) k c) (-(lev (lat x0 x2 x3 x4 x5) k c)) := by
  have hr : S10000x32.Reduces [0] S32 := by decide
  unfold val_main_v25
  refine (Host.reduce_eq_fold_single (α := EReal) max (val_main_v24 (F := Ideal) x0 x2 x3 x4 x5) (val_main_cst_5 (F := Ideal)) _ hr _ (ix1 c)).trans ?_
  have hb : (val_main_cst_5 (F := Ideal) (Shape.Idx.first h_S_)) = (⊥ : EReal) := Consts.cNegInf
  rw [hb]
  have e : ∀ r : Fin 10000, hr.lift (ix1 c) r = ix2 r c := fun r => funext fun a => Fin.ext (by
    match a with
    | ⟨0, _⟩ => rfl
    | ⟨1, _⟩ => rfl)
  refine congrArg (Finset.fold max ⊥ · _) (funext fun (r : Fin 10000) => ?_)
  show val_main_v24 (F := Ideal) x0 x2 x3 x4 x5 (hr.lift (ix1 c) r) = _
  rw [e r, val_main_v24_apply, v23_eq]
  rfl

/-- The step of a column. -/
theorem v29_eq (c : Fin 32) : val_main_v29 (F := Ideal) x0 x2 x3 x4 x5 (ix1 c) = stp (lat x0 x2 x3 x4 x5) c := by
  rw [val_main_v29_apply, val_main_v27_apply, v25_eq, val_main_v26_apply, val_main_cst_6_apply, val_main_v28_apply, val_main_cst_7_apply]
  show Ideal.div (max _ (Ideal.ofBits .f32 0x0DA24260#32)) (Ideal.ofBits .f32 0x42FE0000#32) = _
  rw [Consts.c127]
  rfl

theorem v32_eq (k : Fin 10000) (c : Fin 32) : val_main_v32 (F := Ideal) x0 x2 x3 x4 x5 (ix2 k c)
    = Ideal.div (lev (lat x0 x2 x3 x4 x5) k c) (stp (lat x0 x2 x3 x4 x5) c) := by
  rw [val_main_v32_apply, v23_eq, val_main_v31_apply, val_main_v30_apply,
    show idx_main_v30 (idx_main_v31 (ix2 k c)) = ix1 c from eq_ix1 _, v29_eq]
  rfl

/-- The coarse digit. -/
theorem v33_eq (k : Fin 10000) (c : Fin 32) : val_main_v33 (F := Ideal) x0 x2 x3 x4 x5 (ix2 k c)
    = coarse (lev (lat x0 x2 x3 x4 x5) k c) (stp (lat x0 x2 x3 x4 x5) c) := by
  rw [val_main_v33_apply, v32_eq]
  rfl

/-- The fine digit. -/
theorem v37_eq (k : Fin 10000) (c : Fin 32) : val_main_v37 (F := Ideal) x0 x2 x3 x4 x5 (ix2 k c)
    = fine (lev (lat x0 x2 x3 x4 x5) k c) (stp (lat x0 x2 x3 x4 x5) c) := by
  rw [val_main_v37_apply, val_main_v36_apply, val_main_v34_apply, v33_eq, v32_eq, val_main_v35_apply, val_main_cst_8_apply]
  unfold fine
  rw [← Consts.c128]
  rfl

/-- The value the two digits stand for. -/
theorem v43_eq (k : Fin 10000) (c : Fin 32) : val_main_v43 (F := Ideal) x0 x2 x3 x4 x5 (ix2 k c)
    = stp (lat x0 x2 x3 x4 x5) c * (coarse (lev (lat x0 x2 x3 x4 x5) k c) (stp (lat x0 x2 x3 x4 x5) c)
        + Ideal.div (fine (lev (lat x0 x2 x3 x4 x5) k c) (stp (lat x0 x2 x3 x4 x5) c)) ((128 : ℝ) : EReal)) := by
  rw [val_main_v43_apply, val_main_v42_apply, val_main_v41_apply, val_main_v40_apply, val_main_v39_apply, v33_eq, v37_eq,
    val_main_v38_apply, val_main_cst_9_apply, show idx_main_v41 (idx_main_v42 (ix2 k c)) = ix1 c from eq_ix1 _, v29_eq, ← Consts.c128]
  rfl

/-- The second product. -/
theorem v44_eq (r : Fin 10000) (c : Fin 32) : val_main_v44 (F := Ideal) x0 x2 x3 x4 x5 (ix2 r c)
    = ∑ k : Fin 10000, val_main_v21 (F := Ideal) x0 (ix2 r k) * val_main_v43 (F := Ideal) x0 x2 x3 x4 x5 (ix2 k c) := by
  rw [val_main_v44_apply]
  refine Finset.sum_congr rfl fun k _ => ?_
  rw [show lidx_main_v44 (ix2 r c) k = ix2 r k from eq_ix2 _, show ridx_main_v44 (ix2 r c) k = ix2 k c from eq_ix2 _]

/-- The correction for the shift by 128. -/
theorem v49_eq (r : Fin 10000) (c : Fin 32) : val_main_v49 (F := Ideal) x0 x2 x3 x4 x5 (ix2 r c)
    = ((128 : ℝ) : EReal) * ∑ k : Fin 10000, lev (lat x0 x2 x3 x4 x5) k c := by
  rw [val_main_v49_apply, val_main_v48_apply, val_main_v47_apply, val_main_v46_apply, val_main_cst_11_apply,
    show idx_main_v48 (idx_main_v49 (ix2 r c)) = ix1 c from eq_ix1 _, val_main_v45_apply, val_main_cst_10_apply]
  show Ideal.ofBits .f32 0x43000000#32 * (Ideal.ofBits .f32 0x00000000#32 + _) = _
  rw [zero_add_c0, Consts.c128]
  refine congrArg (((128 : ℝ) : EReal) * ·) (Finset.sum_congr rfl fun k _ => ?_)
  rw [show idx_main_v45 (ix1 c) k = ix2 k c from eq_ix2 _, v23_eq]

theorem v50_eq (i : S10000x32.Idx) : val_main_v50 (F := Ideal) x0 x2 x3 x4 x5 i
    = val_main_v44 (F := Ideal) x0 x2 x3 x4 x5 i + val_main_v49 (F := Ideal) x0 x2 x3 x4 x5 i := rfl

/-- The final sum. -/
theorem v62_eq (i : S10000x32.Idx) : val_main_v62 (F := Ideal) x0 x2 x3 x4 x5 i
    = (stack x2 x3 i + lat x0 x2 x3 x4 x5 i)
      + (val_main_v50 (F := Ideal) x0 x2 x3 x4 x5 i + val_main_v59 (F := Ideal) x0 x2 x3 x4 x5 i) := by
  rw [← v0_eq]
  rfl

end Cert.Proof.Ref

end
-- ==== Proof.Mask.lean ====
/-
The restriction of the value claim, read: where it is set, the two integer products of the second layer have
magnitudes that total at most 2^26.
-/
module

public import proofs.«01_k».proof.Proof.RefQuant
public import proofs.«01_k».proof.Proof.Products
public import proofs.«01_k».proof.Proof.Stream0
public import proofs.«01_k».proof.Proof.Gen.On_within_int8_sum
public import Idealize.ShloMosaic.Lib.StackMember
public import Idealize.ShloMosaic.Lib.WordArith

@[expose] public section

set_option maxRecDepth 100000

noncomputable section

namespace Cert.Proof.Mask

open Idealize.ShloMosaic hiding ix1 ix2 eq_ix1 eq_ix2
open Idealize.ShloMosaic.ValueIdx
open Cert.ReferenceIdeal Cert.ReferenceIdeal.Gen Cert.ReferenceIdeal.Read
open Cert.Proof.HyperMath Cert.Proof.Stack Cert.Proof.Columns Cert.Proof.Quant Cert.Proof.Levels Cert.Proof.Ref Cert.Proof.Products
open Cert.Proof.Stream0 (words)

variable (x0 : Tab 10000 10000) (x1 : IVec S_ 32) (x2 : Tab 6000 32) (x3 : Tab 4000 32) (x4 x5 : Tab 32 128)

/-- The total of the magnitudes of the products of one element, as the restriction computes it. -/
def total (a : Tab 10000 10000) (d : Tab 10000 32) : Tab 10000 32 :=
  Host.dotGeneral (F := Ideal) (φ₁ := .f32) (φ₂ := .f32) (DotDims.plain 10000 10000 32) none (Host.absf (F := Ideal) (φ := .f32) a) (Host.absf (F := Ideal) (φ := .f32) d)

theorem part6_eq (a : Tab 10000 10000) (d e : Tab 10000 32) (i : S10000x32.Idx) : (On_within_int8_sum.fn_part6 (F := Ideal) a d e).1 i
    = IntOp.andi (Ideal.cmp .ole (total a d i) (Ideal.ofBits .f32 0x4C800000#32)) (Ideal.cmp .ole (total a e i) (Ideal.ofBits .f32 0x4C800000#32)) := rfl

/-- The restriction computes the reference's own integers and digits. -/
theorem fn_eq : On_within_int8_sum.fn (F := Ideal) x0 x1 x2 x3 x4 x5
    = On_within_int8_sum.fn_part6 (F := Ideal) (val_main_v21 (F := Ideal) x0) (val_main_v33 (F := Ideal) x0 x2 x3 x4 x5) (val_main_v37 (F := Ideal) x0 x2 x3 x4 x5) := rfl

theorem gnn_eq : (On_within_int8_sum.fn (F := Ideal) x0 x1 x2 x3 x4 x5).2.2.1 = (On_within_int8_sum.fn (F := Ideal) x0 x1 x2 x3 x4 x5).1 := by
  rw [fn_eq]; rfl

theorem bound_word : Ideal.ofBits .f32 0x4C800000#32 = ((67108864 : ℝ) : EReal) := by
  simp [Ideal.ofBits, Ideal.ieee, -EReal.coe_mul]; norm_num

theorem total_at (a : Tab 10000 10000) (d : Tab 10000 32) (r : Fin 10000) (c : Fin 32) :
    total a d (ix2 r c) = ∑ k : Fin 10000, max (a (ix2 r k)) (-(a (ix2 r k))) * max (d (ix2 k c)) (-(d (ix2 k c))) := by
  unfold total
  rw [StackMember.dotGeneral_plain_apply]
  rfl

/-- The reference's integers are the stored words. -/
theorem v21_num (r k : Fin 10000) : val_main_v21 (F := Ideal) x0 (ix2 r k) = num (words x0 (ix2 r k)) := by
  rw [v21_eq, ← stored]
  rfl

/-- The reference's coarse digits are the stored words. -/
theorem v33_num (k : Fin 10000) (c : Fin 32) : val_main_v33 (F := Ideal) x0 x2 x3 x4 x5 (ix2 k c) = num (dig0 (lat x0 x2 x3 x4 x5) (ix2 k c)) := by
  rw [v33_eq]
  exact (digits _ _ (stp_fits _ k c)).1.symm

/-- The reference's fine digits are the stored words. -/
theorem v37_num (k : Fin 10000) (c : Fin 32) : val_main_v37 (F := Ideal) x0 x2 x3 x4 x5 (ix2 k c) = num (dig1 (lat x0 x2 x3 x4 x5) (ix2 k c)) := by
  rw [v37_eq]
  exact (digits _ _ (stp_fits _ k c)).2.symm

theorem total_0 (r : Fin 10000) (c : Fin 32) : total (val_main_v21 (F := Ideal) x0) (val_main_v33 (F := Ideal) x0 x2 x3 x4 x5) (ix2 r c)
    = (((tot (words x0) (dig0 (lat x0 x2 x3 x4 x5)) r c : ℕ) : ℝ) : EReal) := by
  rw [total_at, ← total_eq]
  exact Finset.sum_congr rfl fun k _ => by rw [v21_num, v33_num]

theorem total_1 (r : Fin 10000) (c : Fin 32) : total (val_main_v21 (F := Ideal) x0) (val_main_v37 (F := Ideal) x0 x2 x3 x4 x5) (ix2 r c)
    = (((tot (words x0) (dig1 (lat x0 x2 x3 x4 x5)) r c : ℕ) : ℝ) : EReal) := by
  rw [total_at, ← total_eq]
  exact Finset.sum_congr rfl fun k _ => by rw [v21_num, v37_num]

theorem le_of_cmp (n : ℕ) (h : ((n : ℝ) : EReal) ≤ ((67108864 : ℝ) : EReal)) : n ≤ 2 ^ 26 := by
  have h' : (n : ℝ) ≤ 67108864 := EReal.coe_le_coe_iff.1 h
  have h'' : n ≤ 67108864 := by exact_mod_cast h'
  omega

/-- Where the restriction is set, both totals are within the bound. -/
theorem bounds (r : Fin 10000) (c : Fin 32) (h : (On_within_int8_sum.fn (F := Ideal) x0 x1 x2 x3 x4 x5).1 (ix2 r c) = 1#1) :
    tot (words x0) (dig0 (lat x0 x2 x3 x4 x5)) r c ≤ 2 ^ 26 ∧ tot (words x0) (dig1 (lat x0 x2 x3 x4 x5)) r c ≤ 2 ^ 26 := by
  rw [fn_eq, part6_eq, total_0, total_1, bound_word] at h
  unfold Ideal.cmp at h
  rw [WordArith.andi_ofBool, WordArith.ofBool_eq_one_iff, Bool.and_eq_true] at h
  exact ⟨le_of_cmp _ (of_decide_eq_true h.1), le_of_cmp _ (of_decide_eq_true h.2)⟩

end Cert.Proof.Mask
-- ==== Proof.Values.lean ====
/-
The kernel's five result arrays after its whole run, each as the reference's value of the same arguments: the three
regions chained, the host's two lines before them read.
-/
module

public import proofs.«01_k».proof.Proof.Stream0
public import proofs.«01_k».proof.Proof.Hyper1
public import proofs.«01_k».proof.Proof.Stream1
public import proofs.«01_k».proof.Proof.Mask

@[expose] public section

set_option maxRecDepth 16384

noncomputable section

namespace Cert.Proof.Values

open Idealize.ShloMosaic hiding ix1 ix2 eq_ix1 eq_ix2
open Idealize.ShloMosaic.TcCoe Idealize.ShloMosaic.Tactic Idealize.SL.Sem
open Idealize.ShloMosaic.ValueIdx
open Cert.KernelIdeal Cert.KernelIdeal.Gen
open Cert.Proof.Columns Cert.Proof.HyperMath Cert.Proof.Hyper Cert.Proof.Stack Cert.Proof.Quant Cert.Proof.Levels Cert.Proof.Products

variable (m : (ℓ : Loc nD τ sig) → Buf (Elt Ideal) ℓ) (ρ : Dev nD → PrngReg) (c : Dev nD)

/-- The arguments: the adjacency, the two embedding tables and the two hyperedge matrices. -/
abbrev aA : Tab 10000 10000 := m ((c : Thread nD τ).loc main_arg0)
abbrev aU : Tab 6000 32 := m ((c : Thread nD τ).loc main_arg2)
abbrev aI : Tab 4000 32 := m ((c : Thread nD τ).loc main_arg3)
abbrev aHU : Tab 32 128 := m ((c : Thread nD τ).loc main_arg4)
abbrev aHI : Tab 32 128 := m ((c : Thread nD τ).loc main_arg5)

/-- The embeddings, one table on top of the other. -/
abbrev emb : Tab 10000 32 := stack (aU m c) (aI m c)

/-- A table scaled by the host's constant, the float word of 1/255. -/
def scaled (E : Tab 10000 32) : Tab 10000 32 := fun i => E i * Ideal.ofBits .f32 0x3B808081#32

/-- The embeddings after the host's first line. -/
theorem host_0 : W1 m ρ c (Proc.devRef .tc main_v0) = emb m c := by
  have e : W1 m ρ c (Proc.devRef .tc main_v0) = concatenate S10000x32 0 [⟨S6000x32, aU m c⟩, ⟨S4000x32, aI m c⟩] concatenates_S6000x32_S4000x32_S10000x32_d0 := by
    show StableHlo.after hostOps0 (W0 m ρ c) _ = _
    after_results_simp <;> rfl
  rw [e]
  exact concat_stack _ _ _

/-- The scaled embeddings after the host's second part. -/
theorem host_1 : W2 m ρ c (Proc.devRef .tc main_call0_v2) = scaled (emb m c) := by
  have e : W2 m ρ c (Proc.devRef .tc main_call0_v2) = scaled (W1 m ρ c (Proc.devRef .tc main_v0)) := by
    show StableHlo.after hostOps0_1 (W1 m ρ c) _ = _
    generalize W1 m ρ c = X
    after_results_simp <;> rfl
  rw [e, host_0]

/-! ## The first region -/

/-- The first graph layer. -/
abbrev gnn0 : Tab 10000 32 := Stream0.layer (aA m c) (scaled (emb m c))

theorem in_A : V2 m ρ c main_arg0 = aA m c := W2_args m ρ c main_arg0 (by decide)

theorem r0_gnn : W3 m ρ c (Proc.devRef .tc main_v1_1) = gnn0 m c := by
  refine (W3_arr m ρ c 2).trans ((Stream0.final_2 (V2 m ρ) c).trans ?_)
  rw [in_A]
  exact congrArg (Stream0.layer (aA m c)) (host_1 m ρ c)

theorem r0_words : W3 m ρ c (Proc.devRef .tc main_call0_v3_1) = Stream0.words (aA m c) := by
  refine (W3_arr m ρ c 3).trans ((Stream0.final_3 (V2 m ρ) c).trans ?_)
  rw [in_A]

theorem r0_emb : W3 m ρ c (Proc.devRef .tc main_v0) = emb m c :=
  (W3_of m ρ c main_v0 (by decide +kernel)).trans ((W2_of m ρ c main_v0 (by decide)).trans (host_0 m ρ c))

theorem r0_HU : V3 m ρ c main_arg4 = aHU m c := W3_args m ρ c main_arg4 (by decide)
theorem r0_HI : V3 m ρ c main_arg5 = aHI m c := W3_args m ρ c main_arg5 (by decide)

/-! ## The second region -/

/-- The first hypergraph layer, the layer-1 sums and the second hypergraph layer. -/
abbrev hyp0 : Tab 10000 32 := Hyper1.hyp0 (aU m c) (aI m c) (aHU m c) (aHI m c)
abbrev lat1 : Tab 10000 32 := Hyper1.lat1 (gnn0 m c) (aU m c) (aI m c) (aHU m c) (aHI m c)
abbrev hyp1 : Tab 10000 32 := Hyper1.hyp1 (lat1 m c) (aU m c) (aI m c) (aHU m c) (aHI m c)
/-- The three rows kept beside the digits. -/
abbrev rows : Tab 8 32 := aux (latU (F := Ideal) (gnn0 m c) (emb m c) (aHU m c)) (latI (F := Ideal) (gnn0 m c) (emb m c) (aHI m c))

theorem r1_hyp0 : W4 m ρ c (Proc.devRef .tc main_v1_3) = hyp0 m c :=
  (W4_arr m ρ c 4).trans (Hyper1.final_4 (V3 m ρ) c (aU m c) (aI m c) (aHU m c) (aHI m c) (r0_emb m ρ c) (r0_HU m ρ c) (r0_HI m ρ c))
theorem r1_lat1 : W4 m ρ c (Proc.devRef .tc main_call0_v4_1) = lat1 m c :=
  (W4_arr m ρ c 5).trans (Hyper1.final_5 (V3 m ρ) c (gnn0 m c) (aU m c) (aI m c) (aHU m c) (aHI m c) (r0_gnn m ρ c) (r0_emb m ρ c) (r0_HU m ρ c) (r0_HI m ρ c))
theorem r1_dig0 : W4 m ρ c (Proc.devRef .tc main_call0_v4_2) = dig0 (lat1 m c) :=
  (W4_arr m ρ c 6).trans (Hyper1.final_6 (V3 m ρ) c (gnn0 m c) (aU m c) (aI m c) (aHU m c) (aHI m c) (r0_gnn m ρ c) (r0_emb m ρ c) (r0_HU m ρ c) (r0_HI m ρ c))
theorem r1_dig1 : W4 m ρ c (Proc.devRef .tc main_call0_v4_3) = dig1 (lat1 m c) :=
  (W4_arr m ρ c 7).trans (Hyper1.final_7 (V3 m ρ) c (gnn0 m c) (aU m c) (aI m c) (aHU m c) (aHI m c) (r0_gnn m ρ c) (r0_emb m ρ c) (r0_HU m ρ c) (r0_HI m ρ c))
theorem r1_rows : W4 m ρ c (Proc.devRef .tc main_call0_v4_4) = rows m c :=
  (W4_arr m ρ c 8).trans (Hyper1.final_8 (V3 m ρ) c (gnn0 m c) (aU m c) (aI m c) (aHU m c) (aHI m c) (r0_gnn m ρ c) (r0_emb m ρ c) (r0_HU m ρ c) (r0_HI m ρ c))
theorem r1_hyp1 : W4 m ρ c (Proc.devRef .tc main_v1_4) = hyp1 m c :=
  (W4_arr m ρ c 9).trans (Hyper1.final_9 (V3 m ρ) c (gnn0 m c) (aU m c) (aI m c) (aHU m c) (aHI m c) (r0_gnn m ρ c) (r0_emb m ρ c) (r0_HU m ρ c) (r0_HI m ρ c))
theorem r1_words : W4 m ρ c (Proc.devRef .tc main_call0_v3_1) = Stream0.words (aA m c) :=
  (W4_of m ρ c main_call0_v3_1 (by decide +kernel)).trans (r0_words m ρ c)
theorem r1_emb : W4 m ρ c (Proc.devRef .tc main_v0) = emb m c :=
  (W4_of m ρ c main_v0 (by decide +kernel)).trans (r0_emb m ρ c)
theorem r1_gnn : W4 m ρ c (Proc.devRef .tc main_v1_1) = gnn0 m c :=
  (W4_of m ρ c main_v1_1 (by decide +kernel)).trans (r0_gnn m ρ c)

/-! ## The third region -/

/-- The second graph layer at an element. -/
abbrev gnn1 (i : S10000x32.Idx) : EReal :=
  Stream1.layer (M := 10000) (Stream0.words (aA m c)) (dig0 (lat1 m c)) (dig1 (lat1 m c)) (rows m c) (i 0) (i 1)
/-- Both integer products of an element are within the bound. -/
abbrev Within (i : S10000x32.Idx) : Prop :=
  Stream1.Within (M := 10000) (Stream0.words (aA m c)) (dig0 (lat1 m c)) (dig1 (lat1 m c)) (i 0) (i 1)

theorem r2_gnn1 (i : S10000x32.Idx) (h : Within m c i) : (W5 m ρ c (Proc.devRef .tc main_v1_2) : Tab 10000 32) i = gnn1 m c i :=
  (congrFun (W5_arr m ρ c 7) i).trans (Stream1.final_7 (V4 m ρ) c _ _ _ _ (r1_words m ρ c) (r1_dig0 m ρ c) (r1_dig1 m ρ c) (r1_rows m ρ c) i h)
theorem r2_out (i : S10000x32.Idx) (h : Within m c i) : (W5 m ρ c (Proc.devRef .tc main_v1_0) : Tab 10000 32) i
    = ((emb m c i + lat1 m c i) + gnn1 m c i) + hyp1 m c i :=
  (congrFun (W5_arr m ρ c 8) i).trans (Stream1.final_8 (V4 m ρ) c _ _ _ _ _ _ _ (r1_words m ρ c) (r1_dig0 m ρ c) (r1_dig1 m ρ c) (r1_rows m ρ c)
    (r1_emb m ρ c) (r1_lat1 m ρ c) (r1_hyp1 m ρ c) i h)
theorem r2_gnn0 : W5 m ρ c (Proc.devRef .tc main_v1_1) = gnn0 m c :=
  (W5_of m ρ c main_v1_1 (by decide +kernel)).trans (r1_gnn m ρ c)
theorem r2_hyp0 : W5 m ρ c (Proc.devRef .tc main_v1_3) = hyp0 m c :=
  (W5_of m ρ c main_v1_3 (by decide +kernel)).trans (r1_hyp0 m ρ c)
theorem r2_hyp1 : W5 m ρ c (Proc.devRef .tc main_v1_4) = hyp1 m c :=
  (W5_of m ρ c main_v1_4 (by decide +kernel)).trans (r1_hyp1 m ρ c)

end Cert.Proof.Values
-- ==== Proof.Agree.lean ====
/-
The kernel's result arrays equal the reference's values of the same arguments.
-/
module

public import proofs.«01_k».proof.Proof.Values

@[expose] public section

set_option maxRecDepth 16384

noncomputable section

namespace Cert.Proof.Agree

open Idealize.ShloMosaic hiding ix1 ix2 eq_ix1 eq_ix2
open Idealize.ShloMosaic.TcCoe Idealize.SL.Sem
open Idealize.ShloMosaic.ValueIdx
open Cert.KernelIdeal
open Cert.ReferenceIdeal.Read
open Cert.Proof.Columns Cert.Proof.HyperMath Cert.Proof.Hyper Cert.Proof.Stack Cert.Proof.Quant Cert.Proof.Levels Cert.Proof.Products
open Cert.Proof.Values

variable (m : (ℓ : Loc nD τ sig) → Buf (Elt Ideal) ℓ) (ρ : Dev nD → PrngReg) (c : Dev nD)

/-- The reference's five values of the kernel's arguments. -/
abbrev refOut : Tab 10000 32 := val_main_v62 (F := Ideal) (aA m c) (aU m c) (aI m c) (aHU m c) (aHI m c)
abbrev refGnn0 : Tab 10000 32 := val_main_v8 (F := Ideal) (aA m c) (aU m c) (aI m c)
abbrev refGnn1 : Tab 10000 32 := val_main_v50 (F := Ideal) (aA m c) (aU m c) (aI m c) (aHU m c) (aHI m c)
abbrev refHyp0 : Tab 10000 32 := val_main_v17 (F := Ideal) (aU m c) (aI m c) (aHU m c) (aHI m c)
abbrev refHyp1 : Tab 10000 32 := val_main_v59 (F := Ideal) (aA m c) (aU m c) (aI m c) (aHU m c) (aHI m c)

theorem gnn0_eq : gnn0 m c = refGnn0 m c := by
  funext i
  obtain ⟨r, q, rfl⟩ : ∃ (r : Fin 10000) (q : Fin 32), i = ix2 r q := ⟨i 0, i 1, eq_ix2 i⟩
  refine Eq.trans ?_ (Ref.v8_eq (aA m c) (aU m c) (aI m c) r q).symm
  refine Finset.sum_congr rfl fun k _ => ?_
  show R _ * (stack _ _ (ix2 k q) * Ideal.ofBits .f32 0x3B808081#32) = _
  rw [mul_comm (stack _ _ (ix2 k q)), ← mul_assoc]

theorem hyp0_eq : hyp0 m c = refHyp0 m c := (Ref.v17_eq (aU m c) (aI m c) (aHU m c) (aHI m c)).symm

theorem lat1_eq : lat1 m c = Ref.lat (aA m c) (aU m c) (aI m c) (aHU m c) (aHI m c) := by
  funext i
  rw [Ref.v18_eq]
  show gnn0 m c i + hyp0 m c i = _
  rw [gnn0_eq, hyp0_eq]

theorem hyp1_eq : hyp1 m c = refHyp1 m c := by
  refine Eq.trans ?_ (Ref.v59_eq (aA m c) (aU m c) (aI m c) (aHU m c) (aHI m c)).symm
  show Hyper1.hyp1 (lat1 m c) _ _ _ _ = _
  rw [lat1_eq]
  rfl

/-- Where a column's step is infinite both digits are zero. -/
theorem top_digits (x : Tab 10000 32) (q : Fin 32) (h : stp x q = ⊤) (k : Fin 10000) :
    (dig0 x (ix2 k q)).toInt = 0 ∧ (dig1 x (ix2 k q)).toInt = 0 := by
  have a : num (dig0 x (ix2 k q)) = coarse (lev x k q) (stp x q) := (digits _ _ (stp_fits x k q)).1
  have b : num (dig1 x (ix2 k q)) = fine (lev x k q) (stp x q) := (digits _ _ (stp_fits x k q)).2
  rw [h, coarse_top] at a
  rw [h, fine_top] at b
  unfold num at a b
  constructor
  · exact_mod_cast a
  · exact_mod_cast b

/-- The two products recombined are the reference's product against the recombined digits, plus the column's correction. -/
theorem gnn1_eq (i : S10000x32.Idx) : gnn1 m c i = refGnn1 m c i := by
  obtain ⟨r, q, rfl⟩ : ∃ (r : Fin 10000) (q : Fin 32), i = ix2 r q := ⟨i 0, i 1, eq_ix2 i⟩
  rw [refGnn1, Ref.v50_eq, Ref.v49_eq, Ref.v44_eq]
  show Stream1.layer (M := 10000) _ _ _ (rows m c) r q = _
  unfold Stream1.layer rows
  rw [aux0, aux1, aux2, Hyper1.lat_stack]
  rw [show Hyper1.lat1 (gnn0 m c) (aU m c) (aI m c) (aHU m c) (aHI m c) = lat1 m c from rfl, lat1_eq]
  refine congrArg (fun z : EReal => z + ((128 : ℝ) : EReal) * ∑ k, lev (Ref.lat (aA m c) (aU m c) (aI m c) (aHU m c) (aHI m c)) k q) ?_
  have e := recombine (stp (Ref.lat (aA m c) (aU m c) (aI m c) (aHU m c) (aHI m c)) q) (stp_pos _ q)
    (fun k : Fin 10000 => (Stream0.words (aA m c) (ix2 r k)).toInt)
    (fun k => (dig0 (Ref.lat (aA m c) (aU m c) (aI m c) (aHU m c) (aHI m c)) (ix2 k q)).toInt)
    (fun k => (dig1 (Ref.lat (aA m c) (aU m c) (aI m c) (aHU m c) (aHI m c)) (ix2 k q)).toInt)
    (fun h k => top_digits _ q h k)
  refine Eq.trans e ?_
  refine Finset.sum_congr rfl fun k _ => ?_
  rw [Mask.v21_num, Ref.v43_eq, ← Ref.v33_eq, ← Ref.v37_eq, Mask.v33_num, Mask.v37_num]

theorem out_eq (i : S10000x32.Idx) : ((emb m c i + lat1 m c i) + gnn1 m c i) + hyp1 m c i = refOut m c i := by
  rw [refOut, Ref.v62_eq, gnn1_eq, hyp1_eq, lat1_eq, add_assoc]

/-- The restriction of the claim, at the kernel's arguments. -/
abbrev mask (i : S10000x32.Idx) : Prop :=
  (On_within_int8_sum.fn (F := Ideal) (aA m c) (m ((c : Thread nD τ).loc main_arg1)) (aU m c) (aI m c) (aHU m c) (aHI m c)).1 i = 1#1

theorem within (i : S10000x32.Idx) (h : mask m c i) : Within m c i := by
  obtain ⟨r, q, rfl⟩ : ∃ (r : Fin 10000) (q : Fin 32), i = ix2 r q := ⟨i 0, i 1, eq_ix2 i⟩
  show Stream1.Within (M := 10000) _ (dig0 (lat1 m c)) (dig1 (lat1 m c)) r q
  rw [lat1_eq]
  exact Mask.bounds _ _ _ _ _ _ r q h

end Cert.Proof.Agree
-- ==== Proof.KernelRun.lean ====
/-
One run of the kernel program, with its results. The generated frame says the arguments end unchanged; this module runs
the same launch and also reads off, for each of the five results, what the last boundary's contents hold.
-/
module

public import proofs.«01_k».proof.Proof.Gen.KernelIdeal.Frame

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with each result array at the last boundary's contents and the arguments as launched. -/
theorem run : θ_run defs (onTc (τ := τ) (main (F := F))) ⟨m, fun _ => 0, ρ⟩ (fun r => ∀ c : Dev nD,
      (r.2.mem ((c.tc : Thread nD τ).loc main_v1_0) = W5 m ρ c (Proc.devRef .tc main_v1_0)
      ∧ r.2.mem ((c.tc : Thread nD τ).loc main_v1_1) = W5 m ρ c (Proc.devRef .tc main_v1_1)
      ∧ r.2.mem ((c.tc : Thread nD τ).loc main_v1_2) = W5 m ρ c (Proc.devRef .tc main_v1_2)
      ∧ r.2.mem ((c.tc : Thread nD τ).loc main_v1_3) = W5 m ρ c (Proc.devRef .tc main_v1_3)
      ∧ r.2.mem ((c.tc : Thread nD τ).loc main_v1_4) = W5 m ρ c (Proc.devRef .tc main_v1_4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => fun c =>
      ⟨⟨h c _ (mem_uc main_v1_0 (by decide)), h c _ (mem_uc main_v1_1 (by decide)), h c _ (mem_uc main_v1_2 (by decide)),
        h c _ (mem_uc main_v1_3 (by decide)), h c _ (mem_uc main_v1_4 (by decide))⟩,
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.Proof.KernelRun

end
-- ==== Proof.Result.lean ====
/-
The claims one by one: the three frames, and the agreement of the kernel's and the reference's results.
-/
module

public import proofs.«01_k».proof.Defs
public import proofs.«01_k».proof.Proof.Agree
public import proofs.«01_k».proof.Proof.KernelRun
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read

@[expose] public section

set_option maxRecDepth 16384

noncomputable section

namespace Cert.Proof.Result

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

/-- The reference has no semaphore, so its counters are zero because there are none. -/
theorem frame_reference : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

theorem constants : Cert.preserves_Kernel_KernelIdeal :=
  ⟨IdealRules.named_const.statement Cert.KernelIdeal.κ "inv255" .f32 0x3B808081#32 ((1 / 255 : ℝ) : EReal) rfl,
    IdealRules.named_const.statement Cert.KernelIdeal.κ "inv127" .f32 0x3C010204#32 ((1 / 127 : ℝ) : EReal) rfl⟩

/-- Both programs end with the reference's formulas of the kernel's arguments, at every element the restriction admits. -/
theorem agreement : Cert.algebraic_KernelIdeal_ReferenceIdeal_on_within_int8_sum := by
  intro m g m' g' _ same
  refine ⟨fun c => Agree.refOut m c, fun c => Agree.refGnn0 m c, fun c => Agree.refGnn1 m c, fun c => Agree.refHyp0 m c,
    fun c => Agree.refHyp1 m c, ?_, ?_⟩
  · refine (θ_run Cert.KernelIdeal.defs _ _).mono (fun r h c => ?_) (KernelRun.run (F := Ideal) m g)
    obtain ⟨⟨h0, h1, h2, h3, h4⟩, args⟩ := h c
    refine ⟨fun i hi => ?_, fun i _ => ?_, fun i hi => ?_, fun i _ => ?_, fun i _ => ?_, args⟩
    · rw [h0]
      exact (Values.r2_out m g c i (Agree.within m c i hi)).trans (Agree.out_eq m c i)
    · rw [h1]
      exact congrFun ((Values.r2_gnn0 m g c).trans (Agree.gnn0_eq m c)) i
    · rw [h2]
      rw [Mask.gnn_eq] at hi
      exact (Values.r2_gnn1 m g c i (Agree.within m c i hi)).trans (Agree.gnn1_eq m c i)
    · rw [h3]
      exact congrFun ((Values.r2_hyp0 m g c).trans (Agree.hyp0_eq m c)) i
    · rw [h4]
      exact congrFun ((Values.r2_hyp1 m g c).trans (Agree.hyp1_eq m c)) i
  · refine (θ_run Cert.ReferenceIdeal.defs _ _).mono (fun r h c => ?_) (Cert.ReferenceIdeal.Value.run (F := Ideal) m' g')
    obtain ⟨h0, h1, h2, h3, h4, args⟩ := h c
    obtain ⟨a0, a1, a2, a3, a4, a5⟩ := same c
    refine ⟨fun i _ => ?_, fun i _ => ?_, fun i _ => ?_, fun i _ => ?_, fun i _ => ?_, args⟩
    · rw [h0, Cert.ReferenceIdeal.Read.val_main_v62_eq, a0, a2, a3, a4, a5]
    · rw [h1, a0, a2, a3]
      rfl
    · rw [h2, Cert.ReferenceIdeal.Read.val_main_v50_eq, a0, a2, a3, a4, a5]
    · rw [h3, a2, a3, a4, a5]
      rfl
    · rw [h4, Cert.ReferenceIdeal.Read.val_main_v59_eq, a0, a2, a3, a4, a5]

end Cert.Proof.Result
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_within_int8_sum
public import proofs.«01_k».proof.Proof.Result
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.On_within_int8_sum.Gen.facts,
    Result.frame_kernel, Result.frame_ideal, Result.frame_reference, Result.constants, Result.agreement⟩

end Cert.Proof

end
